-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S18816x128 : Shape := ⟨2, ![18816, 128]⟩
abbrev S8x8x4x128 : Shape := ⟨4, ![8, 8, 4, 128]⟩
abbrev S128 : Shape := ⟨1, ![128]⟩
abbrev S2x4x2x4x4x128 : Shape := ⟨6, ![2, 4, 2, 4, 4, 128]⟩
abbrev S2x2x4x4x4x128 : Shape := ⟨6, ![2, 2, 4, 4, 4, 128]⟩
abbrev S2x2x4x1x4x128 : Shape := ⟨6, ![2, 2, 4, 1, 4, 128]⟩
abbrev S_ : Shape := ⟨0, ![]⟩
abbrev S2x2x4x3x4x128 : Shape := ⟨6, ![2, 2, 4, 3, 4, 128]⟩
abbrev S2x2x4x4x4x256 : Shape := ⟨6, ![2, 2, 4, 4, 4, 256]⟩
abbrev S256x256 : Shape := ⟨2, ![256, 256]⟩
abbrev S2x2x4x4x128 : Shape := ⟨5, ![2, 2, 4, 4, 128]⟩
abbrev S2x2x16x128 : Shape := ⟨4, ![2, 2, 16, 128]⟩
abbrev S2x0x16x128 : Shape := ⟨4, ![2, 0, 16, 128]⟩
abbrev S2x6x16x128 : Shape := ⟨4, ![2, 6, 16, 128]⟩
abbrev S2x8x16x128 : Shape := ⟨4, ![2, 8, 16, 128]⟩
abbrev S256x128 : Shape := ⟨2, ![256, 128]⟩
abbrev S2x1x16x128 : Shape := ⟨4, ![2, 1, 16, 128]⟩
abbrev S2x5x16x128 : Shape := ⟨4, ![2, 5, 16, 128]⟩
abbrev S2x4x16x128 : Shape := ⟨4, ![2, 4, 16, 128]⟩
abbrev S2x3x16x128 : Shape := ⟨4, ![2, 3, 16, 128]⟩
abbrev S1x256x256 : Shape := ⟨3, ![1, 256, 256]⟩
abbrev S3x256x256 : Shape := ⟨3, ![3, 256, 256]⟩
abbrev S1x128 : Shape := ⟨2, ![1, 128]⟩
abbrev S20x20x224x128 : Shape := ⟨4, ![20, 20, 224, 128]⟩
abbrev S896x128 : Shape := ⟨2, ![896, 128]⟩
abbrev S1x20x224x128 : Shape := ⟨4, ![1, 20, 224, 128]⟩
abbrev S3x20x224x128 : Shape := ⟨4, ![3, 20, 224, 128]⟩
abbrev S3x4x224x128 : Shape := ⟨4, ![3, 4, 224, 128]⟩
abbrev S224x128 : Shape := ⟨2, ![224, 128]⟩
abbrev S224x1 : Shape := ⟨2, ![224, 1]⟩
abbrev S112x128 : Shape := ⟨2, ![112, 128]⟩
abbrev S128x112 : Shape := ⟨2, ![128, 112]⟩
abbrev S512x112 : Shape := ⟨2, ![512, 112]⟩
abbrev S1536x112 : Shape := ⟨2, ![1536, 112]⟩
abbrev S1x1x112x128 : Shape := ⟨4, ![1, 1, 112, 128]⟩
abbrev S1x1x224x128 : Shape := ⟨4, ![1, 1, 224, 128]⟩
abbrev S224x256 : Shape := ⟨2, ![224, 256]⟩

abbrev nBuf : Space → Nat
  | .hbm => 76
  | .vmem => 15
  | .smem => 0
  | _ => 0

abbrev bufTy : (tb : Table) → Fin (tcTables nBuf tb) → BufTy
  | .hbm, ⟨0, _⟩ => ⟨S18816x128, .i32⟩
  | .hbm, ⟨1, _⟩ => ⟨S8x8x4x128, .fp8e4m3⟩
  | .hbm, ⟨2, _⟩ => ⟨S128, .f32⟩
  | .hbm, ⟨3, _⟩ => ⟨S128, .f32⟩
  | .hbm, ⟨4, _⟩ => ⟨S2x4x2x4x4x128, .fp8e4m3⟩
  | .hbm, ⟨5, _⟩ => ⟨S2x2x4x4x4x128, .fp8e4m3⟩
  | .hbm, ⟨6, _⟩ => ⟨S2x2x4x1x4x128, .fp8e4m3⟩
  | .hbm, ⟨7, _⟩ => ⟨S_, .i8⟩
  | .hbm, ⟨8, _⟩ => ⟨S2x2x4x1x4x128, .i8⟩
  | .hbm, ⟨9, _⟩ => ⟨S2x2x4x1x4x128, .fp8e4m3⟩
  | .hbm, ⟨10, _⟩ => ⟨S2x2x4x3x4x128, .fp8e4m3⟩
  | .hbm, ⟨11, _⟩ => ⟨S2x2x4x4x4x128, .fp8e4m3⟩
  | .hbm, ⟨12, _⟩ => ⟨S2x2x4x4x4x256, .fp8e4m3⟩
  | .hbm, ⟨13, _⟩ => ⟨S256x256, .fp8e4m3⟩
  | .hbm, ⟨14, _⟩ => ⟨S2x2x4x1x4x128, .fp8e4m3⟩
  | .hbm, ⟨15, _⟩ => ⟨S2x2x4x4x128, .fp8e4m3⟩
  | .hbm, ⟨16, _⟩ => ⟨S2x2x16x128, .fp8e4m3⟩
  | .hbm, ⟨17, _⟩ => ⟨S_, .i8⟩
  | .hbm, ⟨18, _⟩ => ⟨S2x0x16x128, .i8⟩
  | .hbm, ⟨19, _⟩ => ⟨S2x0x16x128, .fp8e4m3⟩
  | .hbm, ⟨20, _⟩ => ⟨S_, .i8⟩
  | .hbm, ⟨21, _⟩ => ⟨S2x6x16x128, .i8⟩
  | .hbm, ⟨22, _⟩ => ⟨S2x6x16x128, .fp8e4m3⟩
  | .hbm, ⟨23, _⟩ => ⟨S2x8x16x128, .fp8e4m3⟩
  | .hbm, ⟨24, _⟩ => ⟨S256x128, .fp8e4m3⟩
  | .hbm, ⟨25, _⟩ => ⟨S_, .i8⟩
  | .hbm, ⟨26, _⟩ => ⟨S2x1x16x128, .i8⟩
  | .hbm, ⟨27, _⟩ => ⟨S2x1x16x128, .fp8e4m3⟩
  | .hbm, ⟨28, _⟩ => ⟨S_, .i8⟩
  | .hbm, ⟨29, _⟩ => ⟨S2x5x16x128, .i8⟩
  | .hbm, ⟨30, _⟩ => ⟨S2x5x16x128, .fp8e4m3⟩
  | .hbm, ⟨31, _⟩ => ⟨S2x8x16x128, .fp8e4m3⟩
  | .hbm, ⟨32, _⟩ => ⟨S256x128, .fp8e4m3⟩
  | .hbm, ⟨33, _⟩ => ⟨S_, .i8⟩
  | .hbm, ⟨34, _⟩ => ⟨S2x2x16x128, .i8⟩
  | .hbm, ⟨35, _⟩ => ⟨S2x2x16x128, .fp8e4m3⟩
  | .hbm, ⟨36, _⟩ => ⟨S_, .i8⟩
  | .hbm, ⟨37, _⟩ => ⟨S2x4x16x128, .i8⟩
  | .hbm, ⟨38, _⟩ => ⟨S2x4x16x128, .fp8e4m3⟩
  | .hbm, ⟨39, _⟩ => ⟨S2x8x16x128, .fp8e4m3⟩
  | .hbm, ⟨40, _⟩ => ⟨S256x128, .fp8e4m3⟩
  | .hbm, ⟨41, _⟩ => ⟨S_, .i8⟩
  | .hbm, ⟨42, _⟩ => ⟨S2x3x16x128, .i8⟩
  | .hbm, ⟨43, _⟩ => ⟨S2x3x16x128, .fp8e4m3⟩
  | .hbm, ⟨44, _⟩ => ⟨S_, .i8⟩
  | .hbm, ⟨45, _⟩ => ⟨S2x3x16x128, .i8⟩
  | .hbm, ⟨46, _⟩ => ⟨S2x3x16x128, .fp8e4m3⟩
  | .hbm, ⟨47, _⟩ => ⟨S2x8x16x128, .fp8e4m3⟩
  | .hbm, ⟨48, _⟩ => ⟨S256x128, .fp8e4m3⟩
  | .hbm, ⟨49, _⟩ => ⟨S_, .i8⟩
  | .hbm, ⟨50, _⟩ => ⟨S2x4x16x128, .i8⟩
  | .hbm, ⟨51, _⟩ => ⟨S2x4x16x128, .fp8e4m3⟩
  | .hbm, ⟨52, _⟩ => ⟨S_, .i8⟩
  | .hbm, ⟨53, _⟩ => ⟨S2x2x16x128, .i8⟩
  | .hbm, ⟨54, _⟩ => ⟨S2x2x16x128, .fp8e4m3⟩
  | .hbm, ⟨55, _⟩ => ⟨S2x8x16x128, .fp8e4m3⟩
  | .hbm, ⟨56, _⟩ => ⟨S256x128, .fp8e4m3⟩
  | .hbm, ⟨57, _⟩ => ⟨S_, .i8⟩
  | .hbm, ⟨58, _⟩ => ⟨S2x5x16x128, .i8⟩
  | .hbm, ⟨59, _⟩ => ⟨S2x5x16x128, .fp8e4m3⟩
  | .hbm, ⟨60, _⟩ => ⟨S_, .i8⟩
  | .hbm, ⟨61, _⟩ => ⟨S2x1x16x128, .i8⟩
  | .hbm, ⟨62, _⟩ => ⟨S2x1x16x128, .fp8e4m3⟩
  | .hbm, ⟨63, _⟩ => ⟨S2x8x16x128, .fp8e4m3⟩
  | .hbm, ⟨64, _⟩ => ⟨S256x128, .fp8e4m3⟩
  | .hbm, ⟨65, _⟩ => ⟨S256x256, .fp8e4m3⟩
  | .hbm, ⟨66, _⟩ => ⟨S256x256, .fp8e4m3⟩
  | .hbm, ⟨67, _⟩ => ⟨S256x256, .fp8e4m3⟩
  | .hbm, ⟨68, _⟩ => ⟨S1x256x256, .fp8e4m3⟩
  | .hbm, ⟨69, _⟩ => ⟨S1x256x256, .fp8e4m3⟩
  | .hbm, ⟨70, _⟩ => ⟨S1x256x256, .fp8e4m3⟩
  | .hbm, ⟨71, _⟩ => ⟨S3x256x256, .fp8e4m3⟩
  | .hbm, ⟨72, _⟩ => ⟨S1x128, .f32⟩
  | .hbm, ⟨73, _⟩ => ⟨S1x128, .f32⟩
  | .hbm, ⟨74, _⟩ => ⟨S20x20x224x128, .bf16⟩
  | .hbm, ⟨75, _⟩ => ⟨S20x20x224x128, .bf16⟩
  | .local _ .vmem, ⟨0, _⟩ => ⟨S896x128, .i32⟩
  | .local _ .vmem, ⟨1, _⟩ => ⟨S896x128, .i32⟩
  | .local _ .vmem, ⟨2, _⟩ => ⟨S256x256, .fp8e4m3⟩
  | .local _ .vmem, ⟨3, _⟩ => ⟨S3x256x256, .fp8e4m3⟩
  | .local _ .vmem, ⟨4, _⟩ => ⟨S1x128, .f32⟩
  | .local _ .vmem, ⟨5, _⟩ => ⟨S1x128, .f32⟩
  | .local _ .vmem, ⟨6, _⟩ => ⟨S1x20x224x128, .bf16⟩
  | .local _ .vmem, ⟨7, _⟩ => ⟨S1x20x224x128, .bf16⟩
  | .local _ .vmem, ⟨8, _⟩ => ⟨S1x20x224x128, .bf16⟩
  | .local _ .vmem, ⟨9, _⟩ => ⟨S1x20x224x128, .bf16⟩
  | .local _ .vmem, ⟨10, _⟩ => ⟨S3x20x224x128, .bf16⟩
  | .local _ .vmem, ⟨11, _⟩ => ⟨S3x4x224x128, .bf16⟩
  | .local _ .vmem, ⟨12, _⟩ => ⟨S256x256, .bf16⟩
  | .local _ .vmem, ⟨13, _⟩ => ⟨S3x256x256, .bf16⟩
  | .local _ .vmem, ⟨14, _⟩ => ⟨S224x128, .i32⟩
  | _, _ => ⟨S18816x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_6 : Ref sig .tc := ⟨.hbm, 41, rfl⟩
abbrev main_v30 : Ref sig .tc := ⟨.hbm, 42, rfl⟩
abbrev main_v31 : Ref sig .tc := ⟨.hbm, 43, rfl⟩
abbrev main_c_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_c_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_10 : Ref sig .tc := ⟨.hbm, 57, rfl⟩
abbrev main_v42 : Ref sig .tc := ⟨.hbm, 58, rfl⟩
abbrev main_v43 : Ref sig .tc := ⟨.hbm, 59, rfl⟩
abbrev main_c_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57_0 : Ref sig .tc := ⟨.hbm, 74, rfl⟩
abbrev main_v57_1 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![22], ![false]⟩

def k0_off1 (i : grid0.Coords) : Fin 4 → Nat :=
  let arg0 : BitVec 32 := BitVec.ofNat 32 (i 0).val
  let c3_i32 : BitVec 32 := 3#32
  let v3 : BitVec 32 := Scalar.remsi arg0 c3_i32
  let v27 : Index := Scalar.indexCast v3
  let c0_10 : Index := 0#32
  let c0_11 : Index := 0#32
  let c0_12 : Index := 0#32
  ![v27.toNat, 0, 0, 0]
def k0_off2 (i : grid0.Coords) : Fin 4 → Nat :=
  let arg0 : BitVec 32 := BitVec.ofNat 32 (i 0).val
  let c3_i32 : BitVec 32 := 3#32
  let v3 : BitVec 32 := Scalar.remsi arg0 c3_i32
  let v33 : Index := Scalar.indexCast v3
  let c1_13 : Index := 1#32
  let c0_14 : Index := 0#32
  let c0_15 : Index := 0#32
  ![v33.toNat, 1, 0, 0]
def k0_off3 (i : grid0.Coords) : Fin 4 → Nat :=
  let arg0 : BitVec 32 := BitVec.ofNat 32 (i 0).val
  let c3_i32 : BitVec 32 := 3#32
  let v3 : BitVec 32 := Scalar.remsi arg0 c3_i32
  let v39 : Index := Scalar.indexCast v3
  let c2_16 : Index := 2#32
  let c0_17 : Index := 0#32
  let c0_18 : Index := 0#32
  ![v39.toNat, 2, 0, 0]
def k0_off4 (i : grid0.Coords) : Fin 4 → Nat :=
  let arg0 : BitVec 32 := BitVec.ofNat 32 (i 0).val
  let c3_i32 : BitVec 32 := 3#32
  let v3 : BitVec 32 := Scalar.remsi arg0 c3_i32
  let v45 : Index := Scalar.indexCast v3
  let c3 : Index := 3#32
  let c0_19 : Index := 0#32
  let c0_20 : Index := 0#32
  ![v45.toNat, 3, 0, 0]
def k0_off5 (i : grid0.Coords) : Fin 4 → Nat :=
  let arg0 : BitVec 32 := BitVec.ofNat 32 (i 0).val
  let c3_i32 : BitVec 32 := 3#32
  let v3 : BitVec 32 := Scalar.remsi arg0 c3_i32
  let v51 : Index := Scalar.indexCast v3
  let c4 : Index := 4#32
  let c0_21 : Index := 0#32
  let c0_22 : Index := 0#32
  ![v51.toNat, 4, 0, 0]
def k0_off6 (i : grid0.Coords) : Fin 4 → Nat :=
  let arg0 : BitVec 32 := BitVec.ofNat 32 (i 0).val
  let c3_i32 : BitVec 32 := 3#32
  let v3 : BitVec 32 := Scalar.remsi arg0 c3_i32
  let v57 : Index := Scalar.indexCast v3
  let c5 : Index := 5#32
  let c0_23 : Index := 0#32
  let c0_24 : Index := 0#32
  ![v57.toNat, 5, 0, 0]
def k0_off7 (i : grid0.Coords) : Fin 4 → Nat :=
  let arg0 : BitVec 32 := BitVec.ofNat 32 (i 0).val
  let c3_i32 : BitVec 32 := 3#32
  let v3 : BitVec 32 := Scalar.remsi arg0 c3_i32
  let v63 : Index := Scalar.indexCast v3
  let c6 : Index := 6#32
  let c0_25 : Index := 0#32
  let c0_26 : Index := 0#32
  ![v63.toNat, 6, 0, 0]
def k0_off8 (i : grid0.Coords) : Fin 4 → Nat :=
  let arg0 : BitVec 32 := BitVec.ofNat 32 (i 0).val
  let c3_i32 : BitVec 32 := 3#32
  let v3 : BitVec 32 := Scalar.remsi arg0 c3_i32
  let v69 : Index := Scalar.indexCast v3
  let c7 : Index := 7#32
  let c0_27 : Index := 0#32
  let c0_28 : Index := 0#32
  ![v69.toNat, 7, 0, 0]
def k0_off9 (i : grid0.Coords) : Fin 4 → Nat :=
  let arg0 : BitVec 32 := BitVec.ofNat 32 (i 0).val
  let c3_i32 : BitVec 32 := 3#32
  let v3 : BitVec 32 := Scalar.remsi arg0 c3_i32
  let v75 : Index := Scalar.indexCast v3
  let c8 : Index := 8#32
  let c0_29 : Index := 0#32
  let c0_30 : Index := 0#32
  ![v75.toNat, 8, 0, 0]
def k0_off10 (i : grid0.Coords) : Fin 4 → Nat :=
  let arg0 : BitVec 32 := BitVec.ofNat 32 (i 0).val
  let c3_i32 : BitVec 32 := 3#32
  let v3 : BitVec 32 := Scalar.remsi arg0 c3_i32
  let v81 : Index := Scalar.indexCast v3
  let c9 : Index := 9#32
  let c0_31 : Index := 0#32
  let c0_32 : Index := 0#32
  ![v81.toNat, 9, 0, 0]
def k0_off11 (i : grid0.Coords) : Fin 4 → Nat :=
  let arg0 : BitVec 32 := BitVec.ofNat 32 (i 0).val
  let c3_i32 : BitVec 32 := 3#32
  let v3 : BitVec 32 := Scalar.remsi arg0 c3_i32
  let v87 : Index := Scalar.indexCast v3
  let c10 : Index := 10#32
  let c0_33 : Index := 0#32
  let c0_34 : Index := 0#32
  ![v87.toNat, 10, 0, 0]
def k0_off12 (i : grid0.Coords) : Fin 4 → Nat :=
  let arg0 : BitVec 32 := BitVec.ofNat 32 (i 0).val
  let c3_i32 : BitVec 32 := 3#32
  let v3 : BitVec 32 := Scalar.remsi arg0 c3_i32
  let v93 : Index := Scalar.indexCast v3
  let c11 : Index := 11#32
  let c0_35 : Index := 0#32
  let c0_36 : Index := 0#32
  ![v93.toNat, 11, 0, 0]
def k0_off13 (i : grid0.Coords) : Fin 4 → Nat :=
  let arg0 : BitVec 32 := BitVec.ofNat 32 (i 0).val
  let c3_i32 : BitVec 32 := 3#32
  let v3 : BitVec 32 := Scalar.remsi arg0 c3_i32
  let v99 : Index := Scalar.indexCast v3
  let c12 : Index := 12#32
  let c0_37 : Index := 0#32
  let c0_38 : Index := 0#32
  ![v99.toNat, 12, 0, 0]
def k0_off14 (i : grid0.Coords) : Fin 4 → Nat :=
  let arg0 : BitVec 32 := BitVec.ofNat 32 (i 0).val
  let c3_i32 : BitVec 32 := 3#32
  let v3 : BitVec 32 := Scalar.remsi arg0 c3_i32
  let v105 : Index := Scalar.indexCast v3
  let c13 : Index := 13#32
  let c0_39 : Index := 0#32
  let c0_40 : Index := 0#32
  ![v105.toNat, 13, 0, 0]
def k0_off15 (i : grid0.Coords) : Fin 4 → Nat :=
  let arg0 : BitVec 32 := BitVec.ofNat 32 (i 0).val
  let c3_i32 : BitVec 32 := 3#32
  let v3 : BitVec 32 := Scalar.remsi arg0 c3_i32
  let v111 : Index := Scalar.indexCast v3
  let c14 : Index := 14#32
  let c0_41 : Index := 0#32
  let c0_42 : Index := 0#32
  ![v111.toNat, 14, 0, 0]
def k0_off16 (i : grid0.Coords) : Fin 4 → Nat :=
  let arg0 : BitVec 32 := BitVec.ofNat 32 (i 0).val
  let c3_i32 : BitVec 32 := 3#32
  let v3 : BitVec 32 := Scalar.remsi arg0 c3_i32
  let v117 : Index := Scalar.indexCast v3
  let c15 : Index := 15#32
  let c0_43 : Index := 0#32
  let c0_44 : Index := 0#32
  ![v117.toNat, 15, 0, 0]
def k0_off17 (i : grid0.Coords) : Fin 4 → Nat :=
  let arg0 : BitVec 32 := BitVec.ofNat 32 (i 0).val
  let c3_i32 : BitVec 32 := 3#32
  let v3 : BitVec 32 := Scalar.remsi arg0 c3_i32
  let v123 : Index := Scalar.indexCast v3
  let c16 : Index := 16#32
  let c0_45 : Index := 0#32
  let c0_46 : Index := 0#32
  ![v123.toNat, 16, 0, 0]
def k0_off18 (i : grid0.Coords) : Fin 4 → Nat :=
  let arg0 : BitVec 32 := BitVec.ofNat 32 (i 0).val
  let c3_i32 : BitVec 32 := 3#32
  let v3 : BitVec 32 := Scalar.remsi arg0 c3_i32
  let v129 : Index := Scalar.indexCast v3
  let c17 : Index := 17#32
  let c0_47 : Index := 0#32
  let c0_48 : Index := 0#32
  ![v129.toNat, 17, 0, 0]
def k0_off19 (i : grid0.Coords) : Fin 4 → Nat :=
  let arg0 : BitVec 32 := BitVec.ofNat 32 (i 0).val
  let c3_i32 : BitVec 32 := 3#32
  let v3 : BitVec 32 := Scalar.remsi arg0 c3_i32
  let v135 : Index := Scalar.indexCast v3
  let c18 : Index := 18#32
  let c0_49 : Index := 0#32
  let c0_50 : Index := 0#32
  ![v135.toNat, 18, 0, 0]
def k0_off20 (i : grid0.Coords) : Fin 4 → Nat :=
  let arg0 : BitVec 32 := BitVec.ofNat 32 (i 0).val
  let c3_i32 : BitVec 32 := 3#32
  let v3 : BitVec 32 := Scalar.remsi arg0 c3_i32
  let v141 : Index := Scalar.indexCast v3
  let c19 : Index := 19#32
  let c0_51 : Index := 0#32
  let c0_52 : Index := 0#32
  ![v141.toNat, 19, 0, 0]
def k0_off21 (i : grid0.Coords) : Fin 4 → Nat :=
  let arg0 : BitVec 32 := BitVec.ofNat 32 (i 0).val
  let c3_i32 : BitVec 32 := 3#32
  let v3 : BitVec 32 := Scalar.remsi arg0 c3_i32
  let v151 : Index := Scalar.indexCast v3
  let c0_55 : Index := 0#32
  let c0_56 : Index := 0#32
  let c0_57 : Index := 0#32
  ![v151.toNat, 0, 0, 0]
def k0_off22 (i : grid0.Coords) : Fin 4 → Nat :=
  let arg0 : BitVec 32 := BitVec.ofNat 32 (i 0).val
  let c3_i32 : BitVec 32 := 3#32
  let v3 : BitVec 32 := Scalar.remsi arg0 c3_i32
  let v157 : Index := Scalar.indexCast v3
  let c1_58 : Index := 1#32
  let c0_59 : Index := 0#32
  let c0_60 : Index := 0#32
  ![v157.toNat, 1, 0, 0]
def k0_off23 (i : grid0.Coords) : Fin 4 → Nat :=
  let arg0 : BitVec 32 := BitVec.ofNat 32 (i 0).val
  let c3_i32 : BitVec 32 := 3#32
  let v3 : BitVec 32 := Scalar.remsi arg0 c3_i32
  let v163 : Index := Scalar.indexCast v3
  let c2_61 : Index := 2#32
  let c0_62 : Index := 0#32
  let c0_63 : Index := 0#32
  ![v163.toNat, 2, 0, 0]
def k0_off24 (i : grid0.Coords) : Fin 4 → Nat :=
  let arg0 : BitVec 32 := BitVec.ofNat 32 (i 0).val
  let c3_i32 : BitVec 32 := 3#32
  let v3 : BitVec 32 := Scalar.remsi arg0 c3_i32
  let v169 : Index := Scalar.indexCast v3
  let c3_64 : Index := 3#32
  let c0_65 : Index := 0#32
  let c0_66 : Index := 0#32
  ![v169.toNat, 3, 0, 0]
def k0_off25 (i : grid0.Coords) : Fin 4 → Nat :=
  let arg0 : BitVec 32 := BitVec.ofNat 32 (i 0).val
  let c3_i32 : BitVec 32 := 3#32
  let v3 : BitVec 32 := Scalar.remsi arg0 c3_i32
  let v188 : Index := Scalar.indexCast v3
  let c0_70 : Index := 0#32
  let c112 : Index := 112#32
  let c0_71 : Index := 0#32
  ![v188.toNat, 0, 112, 0]
def k0_off26 (i : grid0.Coords) : Fin 4 → Nat :=
  let arg0 : BitVec 32 := BitVec.ofNat 32 (i 0).val
  let c3_i32 : BitVec 32 := 3#32
  let v3 : BitVec 32 := Scalar.remsi arg0 c3_i32
  let v194 : Index := Scalar.indexCast v3
  let c1_72 : Index := 1#32
  let c112_73 : Index := 112#32
  let c0_74 : Index := 0#32
  ![v194.toNat, 1, 112, 0]
def k0_off27 (i : grid0.Coords) : Fin 4 → Nat :=
  let arg0 : BitVec 32 := BitVec.ofNat 32 (i 0).val
  let c3_i32 : BitVec 32 := 3#32
  let v3 : BitVec 32 := Scalar.remsi arg0 c3_i32
  let v200 : Index := Scalar.indexCast v3
  let c2_75 : Index := 2#32
  let c112_76 : Index := 112#32
  let c0_77 : Index := 0#32
  ![v200.toNat, 2, 112, 0]
def k0_off28 (i : grid0.Coords) : Fin 4 → Nat :=
  let arg0 : BitVec 32 := BitVec.ofNat 32 (i 0).val
  let c3_i32 : BitVec 32 := 3#32
  let v3 : BitVec 32 := Scalar.remsi arg0 c3_i32
  let v206 : Index := Scalar.indexCast v3
  let c3_78 : Index := 3#32
  let c112_79 : Index := 112#32
  let c0_80 : Index := 0#32
  ![v206.toNat, 3, 112, 0]
def k0_off29 (i : grid0.Coords) : Fin 4 → Nat :=
  let arg0 : BitVec 32 := BitVec.ofNat 32 (i 0).val
  let c3_i32 : BitVec 32 := 3#32
  let v3 : BitVec 32 := Scalar.remsi arg0 c3_i32
  let v212 : Index := Scalar.indexCast v3
  let c4_81 : Index := 4#32
  let c112_82 : Index := 112#32
  let c0_83 : Index := 0#32
  ![v212.toNat, 4, 112, 0]
def k0_off30 (i : grid0.Coords) : Fin 4 → Nat :=
  let arg0 : BitVec 32 := BitVec.ofNat 32 (i 0).val
  let c3_i32 : BitVec 32 := 3#32
  let v3 : BitVec 32 := Scalar.remsi arg0 c3_i32
  let v218 : Index := Scalar.indexCast v3
  let c5_84 : Index := 5#32
  let c112_85 : Index := 112#32
  let c0_86 : Index := 0#32
  ![v218.toNat, 5, 112, 0]
def k0_off31 (i : grid0.Coords) : Fin 4 → Nat :=
  let arg0 : BitVec 32 := BitVec.ofNat 32 (i 0).val
  let c3_i32 : BitVec 32 := 3#32
  let v3 : BitVec 32 := Scalar.remsi arg0 c3_i32
  let v224 : Index := Scalar.indexCast v3
  let c6_87 : Index := 6#32
  let c112_88 : Index := 112#32
  let c0_89 : Index := 0#32
  ![v224.toNat, 6, 112, 0]
def k0_off32 (i : grid0.Coords) : Fin 4 → Nat :=
  let arg0 : BitVec 32 := BitVec.ofNat 32 (i 0).val
  let c3_i32 : BitVec 32 := 3#32
  let v3 : BitVec 32 := Scalar.remsi arg0 c3_i32
  let v230 : Index := Scalar.indexCast v3
  let c7_90 : Index := 7#32
  let c112_91 : Index := 112#32
  let c0_92 : Index := 0#32
  ![v230.toNat, 7, 112, 0]
def k0_off33 (i : grid0.Coords) : Fin 4 → Nat :=
  let arg0 : BitVec 32 := BitVec.ofNat 32 (i 0).val
  let c3_i32 : BitVec 32 := 3#32
  let v3 : BitVec 32 := Scalar.remsi arg0 c3_i32
  let v236 : Index := Scalar.indexCast v3
  let c8_93 : Index := 8#32
  let c112_94 : Index := 112#32
  let c0_95 : Index := 0#32
  ![v236.toNat, 8, 112, 0]
def k0_off34 (i : grid0.Coords) : Fin 4 → Nat :=
  let arg0 : BitVec 32 := BitVec.ofNat 32 (i 0).val
  let c3_i32 : BitVec 32 := 3#32
  let v3 : BitVec 32 := Scalar.remsi arg0 c3_i32
  let v242 : Index := Scalar.indexCast v3
  let c9_96 : Index := 9#32
  let c112_97 : Index := 112#32
  let c0_98 : Index := 0#32
  ![v242.toNat, 9, 112, 0]
def k0_off35 (i : grid0.Coords) : Fin 4 → Nat :=
  let arg0 : BitVec 32 := BitVec.ofNat 32 (i 0).val
  let c3_i32 : BitVec 32 := 3#32
  let v3 : BitVec 32 := Scalar.remsi arg0 c3_i32
  let v248 : Index := Scalar.indexCast v3
  let c10_99 : Index := 10#32
  let c112_100 : Index := 112#32
  let c0_101 : Index := 0#32
  ![v248.toNat, 10, 112, 0]
def k0_off36 (i : grid0.Coords) : Fin 4 → Nat :=
  let arg0 : BitVec 32 := BitVec.ofNat 32 (i 0).val
  let c3_i32 : BitVec 32 := 3#32
  let v3 : BitVec 32 := Scalar.remsi arg0 c3_i32
  let v254 : Index := Scalar.indexCast v3
  let c11_102 : Index := 11#32
  let c112_103 : Index := 112#32
  let c0_104 : Index := 0#32
  ![v254.toNat, 11, 112, 0]
def k0_off37 (i : grid0.Coords) : Fin 4 → Nat :=
  let arg0 : BitVec 32 := BitVec.ofNat 32 (i 0).val
  let c3_i32 : BitVec 32 := 3#32
  let v3 : BitVec 32 := Scalar.remsi arg0 c3_i32
  let v260 : Index := Scalar.indexCast v3
  let c12_105 : Index := 12#32
  let c112_106 : Index := 112#32
  let c0_107 : Index := 0#32
  ![v260.toNat, 12, 112, 0]
def k0_off38 (i : grid0.Coords) : Fin 4 → Nat :=
  let arg0 : BitVec 32 := BitVec.ofNat 32 (i 0).val
  let c3_i32 : BitVec 32 := 3#32
  let v3 : BitVec 32 := Scalar.remsi arg0 c3_i32
  let v266 : Index := Scalar.indexCast v3
  let c13_108 : Index := 13#32
  let c112_109 : Index := 112#32
  let c0_110 : Index := 0#32
  ![v266.toNat, 13, 112, 0]
def k0_off39 (i : grid0.Coords) : Fin 4 → Nat :=
  let arg0 : BitVec 32 := BitVec.ofNat 32 (i 0).val
  let c3_i32 : BitVec 32 := 3#32
  let v3 : BitVec 32 := Scalar.remsi arg0 c3_i32
  let v272 : Index := Scalar.indexCast v3
  let c14_111 : Index := 14#32
  let c112_112 : Index := 112#32
  let c0_113 : Index := 0#32
  ![v272.toNat, 14, 112, 0]
def k0_off40 (i : grid0.Coords) : Fin 4 → Nat :=
  let arg0 : BitVec 32 := BitVec.ofNat 32 (i 0).val
  let c3_i32 : BitVec 32 := 3#32
  let v3 : BitVec 32 := Scalar.remsi arg0 c3_i32
  let v278 : Index := Scalar.indexCast v3
  let c15_114 : Index := 15#32
  let c112_115 : Index := 112#32
  let c0_116 : Index := 0#32
  ![v278.toNat, 15, 112, 0]
def k0_off41 (i : grid0.Coords) : Fin 4 → Nat :=
  let arg0 : BitVec 32 := BitVec.ofNat 32 (i 0).val
  let c3_i32 : BitVec 32 := 3#32
  let v3 : BitVec 32 := Scalar.remsi arg0 c3_i32
  let v284 : Index := Scalar.indexCast v3
  let c16_117 : Index := 16#32
  let c112_118 : Index := 112#32
  let c0_119 : Index := 0#32
  ![v284.toNat, 16, 112, 0]
def k0_off42 (i : grid0.Coords) : Fin 4 → Nat :=
  let arg0 : BitVec 32 := BitVec.ofNat 32 (i 0).val
  let c3_i32 : BitVec 32 := 3#32
  let v3 : BitVec 32 := Scalar.remsi arg0 c3_i32
  let v290 : Index := Scalar.indexCast v3
  let c17_120 : Index := 17#32
  let c112_121 : Index := 112#32
  let c0_122 : Index := 0#32
  ![v290.toNat, 17, 112, 0]
def k0_off43 (i : grid0.Coords) : Fin 4 → Nat :=
  let arg0 : BitVec 32 := BitVec.ofNat 32 (i 0).val
  let c3_i32 : BitVec 32 := 3#32
  let v3 : BitVec 32 := Scalar.remsi arg0 c3_i32
  let v296 : Index := Scalar.indexCast v3
  let c18_123 : Index := 18#32
  let c112_124 : Index := 112#32
  let c0_125 : Index := 0#32
  ![v296.toNat, 18, 112, 0]
def k0_off44 (i : grid0.Coords) : Fin 4 → Nat :=
  let arg0 : BitVec 32 := BitVec.ofNat 32 (i 0).val
  let c3_i32 : BitVec 32 := 3#32
  let v3 : BitVec 32 := Scalar.remsi arg0 c3_i32
  let v302 : Index := Scalar.indexCast v3
  let c19_126 : Index := 19#32
  let c112_127 : Index := 112#32
  let c0_128 : Index := 0#32
  ![v302.toNat, 19, 112, 0]
def k0_off45 (i : grid0.Coords) : Fin 4 → Nat :=
  let arg0 : BitVec 32 := BitVec.ofNat 32 (i 0).val
  let c3_i32 : BitVec 32 := 3#32
  let v3 : BitVec 32 := Scalar.remsi arg0 c3_i32
  let v312 : Index := Scalar.indexCast v3
  let c0_130 : Index := 0#32
  let c112_131 : Index := 112#32
  let c0_132 : Index := 0#32
  ![v312.toNat, 0, 112, 0]
def k0_off46 (i : grid0.Coords) : Fin 4 → Nat :=
  let arg0 : BitVec 32 := BitVec.ofNat 32 (i 0).val
  let c3_i32 : BitVec 32 := 3#32
  let v3 : BitVec 32 := Scalar.remsi arg0 c3_i32
  let v318 : Index := Scalar.indexCast v3
  let c1_133 : Index := 1#32
  let c112_134 : Index := 112#32
  let c0_135 : Index := 0#32
  ![v318.toNat, 1, 112, 0]
def k0_off47 (i : grid0.Coords) : Fin 4 → Nat :=
  let arg0 : BitVec 32 := BitVec.ofNat 32 (i 0).val
  let c3_i32 : BitVec 32 := 3#32
  let v3 : BitVec 32 := Scalar.remsi arg0 c3_i32
  let v324 : Index := Scalar.indexCast v3
  let c2_136 : Index := 2#32
  let c112_137 : Index := 112#32
  let c0_138 : Index := 0#32
  ![v324.toNat, 2, 112, 0]
def k0_off48 (i : grid0.Coords) : Fin 4 → Nat :=
  let arg0 : BitVec 32 := BitVec.ofNat 32 (i 0).val
  let c3_i32 : BitVec 32 := 3#32
  let v3 : BitVec 32 := Scalar.remsi arg0 c3_i32
  let v330 : Index := Scalar.indexCast v3
  let c3_139 : Index := 3#32
  let c112_140 : Index := 112#32
  let c0_141 : Index := 0#32
  ![v330.toNat, 3, 112, 0]
def k0_off49 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v334 : Index := Scalar.indexCast v5
  let c0_142 : Index := 0#32
  let c0_143 : Index := 0#32
  let c0_144 : Index := 0#32
  ![v334.toNat, 0, 0, 0]
def k0_off50 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v344 : Index := Scalar.indexCast v5
  let c0_151 : Index := 0#32
  let c0_152 : Index := 0#32
  let c0_153 : Index := 0#32
  ![v344.toNat, 0, 0, 0]
def k0_off51 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v382 : Index := Scalar.indexCast v5
  let c1_174 : Index := 1#32
  let c0_175 : Index := 0#32
  let c0_176 : Index := 0#32
  ![v382.toNat, 1, 0, 0]
def k0_off52 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v430 : Index := Scalar.indexCast v5
  let c2_207 : Index := 2#32
  let c0_208 : Index := 0#32
  let c0_209 : Index := 0#32
  ![v430.toNat, 2, 0, 0]
def k0_off53 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v468 : Index := Scalar.indexCast v5
  let c3_230 : Index := 3#32
  let c0_231 : Index := 0#32
  let c0_232 : Index := 0#32
  ![v468.toNat, 3, 0, 0]
def k0_off54 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v516 : Index := Scalar.indexCast v5
  let c4_263 : Index := 4#32
  let c0_264 : Index := 0#32
  let c0_265 : Index := 0#32
  ![v516.toNat, 4, 0, 0]
def k0_off55 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v554 : Index := Scalar.indexCast v5
  let c5_286 : Index := 5#32
  let c0_287 : Index := 0#32
  let c0_288 : Index := 0#32
  ![v554.toNat, 5, 0, 0]
def k0_off56 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v592 : Index := Scalar.indexCast v5
  let c1_309 : Index := 1#32
  let c0_310 : Index := 0#32
  let c0_311 : Index := 0#32
  ![v592.toNat, 1, 0, 0]
def k0_off57 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v602 : Index := Scalar.indexCast v5
  let c6_319 : Index := 6#32
  let c0_320 : Index := 0#32
  let c0_321 : Index := 0#32
  ![v602.toNat, 6, 0, 0]
def k0_off58 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v640 : Index := Scalar.indexCast v5
  let c7_342 : Index := 7#32
  let c0_343 : Index := 0#32
  let c0_344 : Index := 0#32
  ![v640.toNat, 7, 0, 0]
def k0_off59 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v688 : Index := Scalar.indexCast v5
  let c8_375 : Index := 8#32
  let c0_376 : Index := 0#32
  let c0_377 : Index := 0#32
  ![v688.toNat, 8, 0, 0]
def k0_off60 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v726 : Index := Scalar.indexCast v5
  let c9_398 : Index := 9#32
  let c0_399 : Index := 0#32
  let c0_400 : Index := 0#32
  ![v726.toNat, 9, 0, 0]
def k0_off61 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v774 : Index := Scalar.indexCast v5
  let c10_431 : Index := 10#32
  let c0_432 : Index := 0#32
  let c0_433 : Index := 0#32
  ![v774.toNat, 10, 0, 0]
def k0_off62 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v812 : Index := Scalar.indexCast v5
  let c11_454 : Index := 11#32
  let c0_455 : Index := 0#32
  let c0_456 : Index := 0#32
  ![v812.toNat, 11, 0, 0]
def k0_off63 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v850 : Index := Scalar.indexCast v5
  let c2_477 : Index := 2#32
  let c0_478 : Index := 0#32
  let c0_479 : Index := 0#32
  ![v850.toNat, 2, 0, 0]
def k0_off64 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v860 : Index := Scalar.indexCast v5
  let c12_487 : Index := 12#32
  let c0_488 : Index := 0#32
  let c0_489 : Index := 0#32
  ![v860.toNat, 12, 0, 0]
def k0_off65 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v898 : Index := Scalar.indexCast v5
  let c13_510 : Index := 13#32
  let c0_511 : Index := 0#32
  let c0_512 : Index := 0#32
  ![v898.toNat, 13, 0, 0]
def k0_off66 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v946 : Index := Scalar.indexCast v5
  let c14_543 : Index := 14#32
  let c0_544 : Index := 0#32
  let c0_545 : Index := 0#32
  ![v946.toNat, 14, 0, 0]
def k0_off67 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v984 : Index := Scalar.indexCast v5
  let c15_566 : Index := 15#32
  let c0_567 : Index := 0#32
  let c0_568 : Index := 0#32
  ![v984.toNat, 15, 0, 0]
def k0_off68 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v1032 : Index := Scalar.indexCast v5
  let c16_599 : Index := 16#32
  let c0_600 : Index := 0#32
  let c0_601 : Index := 0#32
  ![v1032.toNat, 16, 0, 0]
def k0_off69 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v1070 : Index := Scalar.indexCast v5
  let c17_622 : Index := 17#32
  let c0_623 : Index := 0#32
  let c0_624 : Index := 0#32
  ![v1070.toNat, 17, 0, 0]
def k0_off70 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v1108 : Index := Scalar.indexCast v5
  let c3_645 : Index := 3#32
  let c0_646 : Index := 0#32
  let c0_647 : Index := 0#32
  ![v1108.toNat, 3, 0, 0]
def k0_off71 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v1118 : Index := Scalar.indexCast v5
  let c18_655 : Index := 18#32
  let c0_656 : Index := 0#32
  let c0_657 : Index := 0#32
  ![v1118.toNat, 18, 0, 0]
def k0_off72 (i : grid0.Coords) (c1_i32 : BitVec 32) : Fin 4 → Nat :=
  let arg0 : BitVec 32 := BitVec.ofNat 32 (i 0).val
  let v4 : BitVec 32 := Scalar.addi arg0 c1_i32
  let c3_i32_1 : BitVec 32 := 3#32
  let v5 : BitVec 32 := Scalar.remsi v4 c3_i32_1
  let v1156 : Index := Scalar.indexCast v5
  let c19_678 : Index := 19#32
  let c0_679 : Index := 0#32
  let c0_680 : Index := 0#32
  ![v1156.toNat, 19, 0, 0]
def cc0_transform_0 (i : grid0.Coords) : Fin 2 → Nat :=
  let arg0 : BitVec 32 := BitVec.ofNat 32 (i 0).val
  let c20_i32 : BitVec 32 := 20#32
  let v0 : BitVec 32 := Scalar.minsi arg0 c20_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_6 (i : grid0.Coords) : Fin 4 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

abbrev stage0_0 : Fin 2 → Memref sig .tc .vmem S896x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x256x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x20x224x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x20x224x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S18816x128 : Shape := ⟨2, ![18816, 128]⟩
abbrev S8x8x4x128 : Shape := ⟨4, ![8, 8, 4, 128]⟩
abbrev S128 : Shape := ⟨1, ![128]⟩
abbrev S21x224x512 : Shape := ⟨3, ![21, 224, 512]⟩
abbrev S21x224x512x4 : Shape := ⟨4, ![21, 224, 512, 4]⟩
abbrev S21x224x336x4 : Shape := ⟨4, ![21, 224, 336, 4]⟩
abbrev S21x224x21x4x4x4 : Shape := ⟨6, ![21, 224, 21, 4, 4, 4]⟩
abbrev S224x21x4x21x4x4 : Shape := ⟨6, ![224, 21, 4, 21, 4, 4]⟩
abbrev S224x84x84x4 : Shape := ⟨4, ![224, 84, 84, 4]⟩
abbrev S21x224x84x4 : Shape := ⟨4, ![21, 224, 84, 4]⟩
abbrev S21x224x21x4x4 : Shape := ⟨5, ![21, 224, 21, 4, 4]⟩
abbrev S224x21x4x21x4 : Shape := ⟨5, ![224, 21, 4, 21, 4]⟩
abbrev S224x84x84x1 : Shape := ⟨4, ![224, 84, 84, 1]⟩
abbrev S1x224x1 : Shape := ⟨3, ![1, 224, 1]⟩
abbrev S224 : Shape := ⟨1, ![224]⟩
abbrev S_ : Shape := ⟨0, ![]⟩
abbrev S224x1x1x1 : Shape := ⟨4, ![224, 1, 1, 1]⟩
abbrev S224x84x84x3 : Shape := ⟨4, ![224, 84, 84, 3]⟩
abbrev S224x20x84x4 : Shape := ⟨4, ![224, 20, 84, 4]⟩
abbrev S224x20x1x84x4 : Shape := ⟨5, ![224, 20, 1, 84, 4]⟩
abbrev S224x20x8x84x4 : Shape := ⟨5, ![224, 20, 8, 84, 4]⟩
abbrev S224x20x8x20x4 : Shape := ⟨5, ![224, 20, 8, 20, 4]⟩
abbrev S224x20x8x20x1x4 : Shape := ⟨6, ![224, 20, 8, 20, 1, 4]⟩
abbrev S224x20x8x20x8x4 : Shape := ⟨6, ![224, 20, 8, 20, 8, 4]⟩
abbrev S224x20x20x128 : Shape := ⟨4, ![224, 20, 20, 128]⟩
abbrev S1x1x1x128 : Shape := ⟨4, ![1, 1, 1, 128]⟩
abbrev S20x20x224x128 : Shape := ⟨4, ![20, 20, 224, 128]⟩

abbrev nBuf : Space → Nat
  | .hbm => 125
  | .vmem => 2
  | .smem => 0
  | _ => 0

abbrev bufTy : (tb : Table) → Fin (tcTables nBuf tb) → BufTy
  | .hbm, ⟨0, _⟩ => ⟨S18816x128, .i32⟩
  | .hbm, ⟨1, _⟩ => ⟨S8x8x4x128, .fp8e4m3⟩
  | .hbm, ⟨2, _⟩ => ⟨S128, .f32⟩
  | .hbm, ⟨3, _⟩ => ⟨S128, .f32⟩
  | .hbm, ⟨4, _⟩ => ⟨S8x8x4x128, .bf16⟩
  | .hbm, ⟨5, _⟩ => ⟨S21x224x512, .i32⟩
  | .hbm, ⟨6, _⟩ => ⟨S21x224x512x4, .i8⟩
  | .hbm, ⟨7, _⟩ => ⟨S21x224x336x4, .i8⟩
  | .hbm, ⟨8, _⟩ => ⟨S21x224x21x4x4x4, .i8⟩
  | .hbm, ⟨9, _⟩ => ⟨S224x21x4x21x4x4, .i8⟩
  | .hbm, ⟨10, _⟩ => ⟨S224x84x84x4, .i8⟩
  | .hbm, ⟨11, _⟩ => ⟨S21x224x84x4, .i8⟩
  | .hbm, ⟨12, _⟩ => ⟨S21x224x21x4x4, .i8⟩
  | .hbm, ⟨13, _⟩ => ⟨S224x21x4x21x4, .i8⟩
  | .hbm, ⟨14, _⟩ => ⟨S224x84x84x1, .i8⟩
  | .hbm, ⟨15, _⟩ => ⟨S1x224x1, .i32⟩
  | .hbm, ⟨16, _⟩ => ⟨S224, .i32⟩
  | .hbm, ⟨17, _⟩ => ⟨S_, .i32⟩
  | .hbm, ⟨18, _⟩ => ⟨S224, .i32⟩
  | .hbm, ⟨19, _⟩ => ⟨S224, .i1⟩
  | .hbm, ⟨20, _⟩ => ⟨S224x1x1x1, .i1⟩
  | .hbm, ⟨21, _⟩ => ⟨S224x84x84x3, .i8⟩
  | .hbm, ⟨22, _⟩ => ⟨S_, .i8⟩
  | .hbm, ⟨23, _⟩ => ⟨S224x84x84x3, .i1⟩
  | .hbm, ⟨24, _⟩ => ⟨S224x84x84x3, .i8⟩
  | .hbm, ⟨25, _⟩ => ⟨S224x84x84x3, .i8⟩
  | .hbm, ⟨26, _⟩ => ⟨S224x84x84x4, .i8⟩
  | .hbm, ⟨27, _⟩ => ⟨S224x84x84x4, .i32⟩
  | .hbm, ⟨28, _⟩ => ⟨S224x84x84x4, .f32⟩
  | .hbm, ⟨29, _⟩ => ⟨S224x84x84x4, .bf16⟩
  | .hbm, ⟨30, _⟩ => ⟨S224x20x84x4, .bf16⟩
  | .hbm, ⟨31, _⟩ => ⟨S224x20x84x4, .bf16⟩
  | .hbm, ⟨32, _⟩ => ⟨S224x20x84x4, .bf16⟩
  | .hbm, ⟨33, _⟩ => ⟨S224x20x84x4, .bf16⟩
  | .hbm, ⟨34, _⟩ => ⟨S224x20x84x4, .bf16⟩
  | .hbm, ⟨35, _⟩ => ⟨S224x20x84x4, .bf16⟩
  | .hbm, ⟨36, _⟩ => ⟨S224x20x84x4, .bf16⟩
  | .hbm, ⟨37, _⟩ => ⟨S224x20x84x4, .bf16⟩
  | .hbm, ⟨38, _⟩ => ⟨S224x20x1x84x4, .bf16⟩
  | .hbm, ⟨39, _⟩ => ⟨S224x20x1x84x4, .bf16⟩
  | .hbm, ⟨40, _⟩ => ⟨S224x20x1x84x4, .bf16⟩
  | .hbm, ⟨41, _⟩ => ⟨S224x20x1x84x4, .bf16⟩
  | .hbm, ⟨42, _⟩ => ⟨S224x20x1x84x4, .bf16⟩
  | .hbm, ⟨43, _⟩ => ⟨S224x20x1x84x4, .bf16⟩
  | .hbm, ⟨44, _⟩ => ⟨S224x20x1x84x4, .bf16⟩
  | .hbm, ⟨45, _⟩ => ⟨S224x20x1x84x4, .bf16⟩
  | .hbm, ⟨46, _⟩ => ⟨S224x20x8x84x4, .bf16⟩
  | .hbm, ⟨47, _⟩ => ⟨S224x20x8x20x4, .bf16⟩
  | .hbm, ⟨48, _⟩ => ⟨S224x20x8x20x4, .bf16⟩
  | .hbm, ⟨49, _⟩ => ⟨S224x20x8x20x4, .bf16⟩
  | .hbm, ⟨50, _⟩ => ⟨S224x20x8x20x4, .bf16⟩
  | .hbm, ⟨51, _⟩ => ⟨S224x20x8x20x4, .bf16⟩
  | .hbm, ⟨52, _⟩ => ⟨S224x20x8x20x4, .bf16⟩
  | .hbm, ⟨53, _⟩ => ⟨S224x20x8x20x4, .bf16⟩
  | .hbm, ⟨54, _⟩ => ⟨S224x20x8x20x4, .bf16⟩
  | .hbm, ⟨55, _⟩ => ⟨S224x20x8x20x1x4, .bf16⟩
  | .hbm, ⟨56, _⟩ => ⟨S224x20x8x20x1x4, .bf16⟩
  | .hbm, ⟨57, _⟩ => ⟨S224x20x8x20x1x4, .bf16⟩
  | .hbm, ⟨58, _⟩ => ⟨S224x20x8x20x1x4, .bf16⟩
  | .hbm, ⟨59, _⟩ => ⟨S224x20x8x20x1x4, .bf16⟩
  | .hbm, ⟨60, _⟩ => ⟨S224x20x8x20x1x4, .bf16⟩
  | .hbm, ⟨61, _⟩ => ⟨S224x20x8x20x1x4, .bf16⟩
  | .hbm, ⟨62, _⟩ => ⟨S224x20x8x20x1x4, .bf16⟩
  | .hbm, ⟨63, _⟩ => ⟨S224x20x8x20x8x4, .bf16⟩
  | .hbm, ⟨64, _⟩ => ⟨S224x20x20x128, .f32⟩
  | .hbm, ⟨65, _⟩ => ⟨S1x1x1x128, .f32⟩
  | .hbm, ⟨66, _⟩ => ⟨S224x20x20x128, .f32⟩
  | .hbm, ⟨67, _⟩ => ⟨S224x20x20x128, .f32⟩
  | .hbm, ⟨68, _⟩ => ⟨S1x1x1x128, .f32⟩
  | .hbm, ⟨69, _⟩ => ⟨S224x20x20x128, .f32⟩
  | .hbm, ⟨70, _⟩ => ⟨S224x20x20x128, .f32⟩
  | .hbm, ⟨71, _⟩ => ⟨S_, .f32⟩
  | .hbm, ⟨72, _⟩ => ⟨S224x20x20x128, .f32⟩
  | .hbm, ⟨73, _⟩ => ⟨S224x20x20x128, .f32⟩
  | .hbm, ⟨74, _⟩ => ⟨S224x20x20x128, .bf16⟩
  | .hbm, ⟨75, _⟩ => ⟨S224x84x84x4, .i32⟩
  | .hbm, ⟨76, _⟩ => ⟨S224x84x84x4, .f32⟩
  | .hbm, ⟨77, _⟩ => ⟨S224x84x84x4, .bf16⟩
  | .hbm, ⟨78, _⟩ => ⟨S224x20x84x4, .bf16⟩
  | .hbm, ⟨79, _⟩ => ⟨S224x20x84x4, .bf16⟩
  | .hbm, ⟨80, _⟩ => ⟨S224x20x84x4, .bf16⟩
  | .hbm, ⟨81, _⟩ => ⟨S224x20x84x4, .bf16⟩
  | .hbm, ⟨82, _⟩ => ⟨S224x20x84x4, .bf16⟩
  | .hbm, ⟨83, _⟩ => ⟨S224x20x84x4, .bf16⟩
  | .hbm, ⟨84, _⟩ => ⟨S224x20x84x4, .bf16⟩
  | .hbm, ⟨85, _⟩ => ⟨S224x20x84x4, .bf16⟩
  | .hbm, ⟨86, _⟩ => ⟨S224x20x1x84x4, .bf16⟩
  | .hbm, ⟨87, _⟩ => ⟨S224x20x1x84x4, .bf16⟩
  | .hbm, ⟨88, _⟩ => ⟨S224x20x1x84x4, .bf16⟩
  | .hbm, ⟨89, _⟩ => ⟨S224x20x1x84x4, .bf16⟩
  | .hbm, ⟨90, _⟩ => ⟨S224x20x1x84x4, .bf16⟩
  | .hbm, ⟨91, _⟩ => ⟨S224x20x1x84x4, .bf16⟩
  | .hbm, ⟨92, _⟩ => ⟨S224x20x1x84x4, .bf16⟩
  | .hbm, ⟨93, _⟩ => ⟨S224x20x1x84x4, .bf16⟩
  | .hbm, ⟨94, _⟩ => ⟨S224x20x8x84x4, .bf16⟩
  | .hbm, ⟨95, _⟩ => ⟨S224x20x8x20x4, .bf16⟩
  | .hbm, ⟨96, _⟩ => ⟨S224x20x8x20x4, .bf16⟩
  | .hbm, ⟨97, _⟩ => ⟨S224x20x8x20x4, .bf16⟩
  | .hbm, ⟨98, _⟩ => ⟨S224x20x8x20x4, .bf16⟩
  | .hbm, ⟨99, _⟩ => ⟨S224x20x8x20x4, .bf16⟩
  | .hbm, ⟨100, _⟩ => ⟨S224x20x8x20x4, .bf16⟩
  | .hbm, ⟨101, _⟩ => ⟨S224x20x8x20x4, .bf16⟩
  | .hbm, ⟨102, _⟩ => ⟨S224x20x8x20x4, .bf16⟩
  | .hbm, ⟨103, _⟩ => ⟨S224x20x8x20x1x4, .bf16⟩
  | .hbm, ⟨104, _⟩ => ⟨S224x20x8x20x1x4, .bf16⟩
  | .hbm, ⟨105, _⟩ => ⟨S224x20x8x20x1x4, .bf16⟩
  | .hbm, ⟨106, _⟩ => ⟨S224x20x8x20x1x4, .bf16⟩
  | .hbm, ⟨107, _⟩ => ⟨S224x20x8x20x1x4, .bf16⟩
  | .hbm, ⟨108, _⟩ => ⟨S224x20x8x20x1x4, .bf16⟩
  | .hbm, ⟨109, _⟩ => ⟨S224x20x8x20x1x4, .bf16⟩
  | .hbm, ⟨110, _⟩ => ⟨S224x20x8x20x1x4, .bf16⟩
  | .hbm, ⟨111, _⟩ => ⟨S224x20x8x20x8x4, .bf16⟩
  | .hbm, ⟨112, _⟩ => ⟨S224x20x20x128, .f32⟩
  | .hbm, ⟨113, _⟩ => ⟨S1x1x1x128, .f32⟩
  | .hbm, ⟨114, _⟩ => ⟨S224x20x20x128, .f32⟩
  | .hbm, ⟨115, _⟩ => ⟨S224x20x20x128, .f32⟩
  | .hbm, ⟨116, _⟩ => ⟨S1x1x1x128, .f32⟩
  | .hbm, ⟨117, _⟩ => ⟨S224x20x20x128, .f32⟩
  | .hbm, ⟨118, _⟩ => ⟨S224x20x20x128, .f32⟩
  | .hbm, ⟨119, _⟩ => ⟨S_, .f32⟩
  | .hbm, ⟨120, _⟩ => ⟨S224x20x20x128, .f32⟩
  | .hbm, ⟨121, _⟩ => ⟨S224x20x20x128, .f32⟩
  | .hbm, ⟨122, _⟩ => ⟨S224x20x20x128, .bf16⟩
  | .hbm, ⟨123, _⟩ => ⟨S20x20x224x128, .bf16⟩
  | .hbm, ⟨124, _⟩ => ⟨S20x20x224x128, .bf16⟩
  | .local _ .vmem, ⟨0, _⟩ => ⟨S8x8x4x128, .fp8e4m3⟩
  | .local _ .vmem, ⟨1, _⟩ => ⟨S8x8x4x128, .bf16⟩
  | _, _ => ⟨S18816x128, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_call0_v0 : Ref sig .tc := ⟨.hbm, 23, rfl⟩
abbrev main_call0_v1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_call1_cst : Ref sig .tc := ⟨.hbm, 71, rfl⟩
abbrev main_call1_v0 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_call2_cst : Ref sig .tc := ⟨.hbm, 119, rfl⟩
abbrev main_call2_v0 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x8x4x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x4x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Conv.Points.lean ====
/-
  The grid's points: which of them is the first in the body's own words, the staging buffers the body is handed at a point,
  and the scratch buffers it keeps between points.
-/
module

public import proofs.«01_k».proof.Proof.Gen.KernelIdeal.Frame

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The condition of the body's branch, from the grid coordinate. -/
abbrev isFirst (i : grid0.Coords) : Prop :=
  (Scalar.cmpi .ne (Scalar.extui (Scalar.cmpi .eq (BitVec.ofNat 32 (i 0).val) 0#32)) 0#32) = 1#1

/-- A point's coordinate is its number. -/
theorem coords_val (t : Fin cfg0.N) : (grid0.coords t 0).val = t.val := by
  have ht : t.val < 22 := Nat.lt_of_lt_of_eq t.isLt N_0
  have e0 : (grid0.coords t 0).val = t.val / 1 % 22 := Pipeline.Grid.coords_val t 0 (by decide) rfl
  omega

/-- It holds at the first point only. -/
theorem isFirst_iff : ∀ t : Fin cfg0.N, isFirst (grid0.coords t) ↔ t.val = 0 := fun t => by
  have ht : t.val < 22 := Nat.lt_of_lt_of_eq t.isLt N_0
  simp only [isFirst, coords_val]
  word_cmp

/-! ## The buffers the body is handed -/

abbrev ms0_0 (t : Fin cfg0.N) : Memref sig .tc .vmem S896x128 .i32 := win0_0.stage (cfg0.slots t 0)
abbrev ms0_1 (t : Fin cfg0.N) : Memref sig .tc .vmem S256x256 .fp8e4m3 := win0_1.stage (cfg0.slots t 1)
abbrev ms0_2 (t : Fin cfg0.N) : Memref sig .tc .vmem S3x256x256 .fp8e4m3 := win0_2.stage (cfg0.slots t 2)
abbrev ms0_3 (t : Fin cfg0.N) : Memref sig .tc .vmem S1x128 .f32 := win0_3.stage (cfg0.slots t 3)
abbrev ms0_4 (t : Fin cfg0.N) : Memref sig .tc .vmem S1x128 .f32 := win0_4.stage (cfg0.slots t 4)
abbrev ms0_5 (t : Fin cfg0.N) : Memref sig .tc .vmem S1x20x224x128 .bf16 := win0_5.stage (cfg0.slots t 5)
abbrev ms0_6 (t : Fin cfg0.N) : Memref sig .tc .vmem S1x20x224x128 .bf16 := win0_6.stage (cfg0.slots t 6)
abbrev scM0_0 : Memref sig .tc .vmem S3x20x224x128 .bf16 := Memref.whole cc0_scratch0
abbrev scM0_1 : Memref sig .tc .vmem S3x4x224x128 .bf16 := Memref.whole cc0_scratch1
abbrev scM0_2 : Memref sig .tc .vmem S256x256 .bf16 := Memref.whole cc0_scratch2
abbrev scM0_3 : Memref sig .tc .vmem S3x256x256 .bf16 := Memref.whole cc0_scratch3
abbrev scM0_4 : Memref sig .tc .vmem S224x128 .i32 := Memref.whole cc0_scratch4

/-- What a core holds besides the windows before the first point and after the last: the scratch buffers at some contents
    and the generator register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)
          ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Conv

end
-- ==== Proof.Conv.Tiles.lean ====
/-
  What one grid point of the convolution kernel computes, as plain functions of what it reads: the pixel rows it builds
  from a band of words, the two scratch arrays after the build, and the two result blocks it writes.
-/
module

public import proofs.«01_k».proof.Proof.Gen.KernelIdeal.Skeleton
public import Idealize.ShloMosaic.Lib.Pipeline.FrameBody
public import Idealize.ShloMosaic.Lib.WholeRead
public import Idealize.ShloMosaic.Lib.ValueLayout
public import Idealize.ShloMosaic.Lib.Pointwise

@[expose] public section

noncomputable section

namespace Cert.KernelIdeal.Conv

open Idealize.ShloMosaic Cert.KernelIdeal.Gen

variable {F : FTy → Type} [FloatOps F]

/-! ## The pixel rows of a band -/

/-- The words of tile `o % 4` of 112 samples, the first at sample `o / 4`: rows `o`, `o + 4`, `o + 8`, … of the band. -/
def rows (x0 : Vec F S896x128 .i32) (o : ℕ) : Vec F S112x128 .i32 :=
  fun y => x0 (ix2 ⟨(o + 4 * (y 0).val) % 896, Nat.mod_lt _ (by decide)⟩ ⟨(y 1).val, (y 1).isLt⟩)

/-- The bytes of word tiles 0 to 2 as numbers, for the 112 samples from `j0` on: [byte, sample]. -/
def cols3 (x0 : Vec F S896x128 .i32) (j0 : ℕ) : FVec F S1536x112 .bf16 :=
  k0_pay10 (rows x0 (4 * j0)) (rows x0 (4 * j0 + 1)) (rows x0 (4 * j0 + 2))

/-- The bytes of word tile 3, which holds the newest frame. -/
def cols1 (x0 : Vec F S896x128 .i32) (j0 : ℕ) : FVec F S512x112 .bf16 := k0_pay35 (rows x0 (4 * j0 + 3))

/-- Windows of 128 bytes, one every `q` bytes, of the columns `cat`: at (slab, window, sample, byte), for any slab. -/
def windows {N : ℕ} (R q : ℕ) [NeZero R] (cat : ℕ → FVec F ⟨2, ![R, 112]⟩ .bf16) : (⟨4, ![3, N, 224, 128]⟩ : Shape).Idx → F .bf16 :=
  fun y => cat (112 * ((y 2).val / 112)) (ix2 (Fin.ofNat R (q * (y 1).val + (y 3).val)) (Fin.ofNat 112 (y 2).val))

/-- A scratch array after the build at point `n`: slab `n % 3` holds the windows of the band, the others what they held. -/
def slabSet {N : ℕ} (n : ℕ) (G Z : (⟨4, ![3, N, 224, 128]⟩ : Shape).Idx → F .bf16) : (⟨4, ![3, N, 224, 128]⟩ : Shape).Idx → F .bf16 :=
  fun y => if (y 0).val = n % 3 then G y else Z y

/-- The first scratch array after the build at point `n` from the band's words `x0`. -/
def zNext (n : ℕ) (x0 : Vec F S896x128 .i32) (Z : Vec F S3x20x224x128 .bf16) : Vec F S3x20x224x128 .bf16 :=
  slabSet n (windows 1536 64 (cols3 x0)) Z

/-- The second. -/
def z4Next (n : ℕ) (x0 : Vec F S896x128 .i32) (Z : Vec F S3x4x224x128 .bf16) : Vec F S3x4x224x128 .bf16 :=
  slabSet n (windows 512 96 (cols1 x0)) Z

/-- Per sample, all ones where the episode goes on and zero where it ended. -/
def gateOf (x0 : Vec F S896x128 .i32) : Vec F S224x128 .i32 :=
  k0_pay6 fun y => x0 (ix2 ⟨(3 + 4 * (y 0).val) % 896, Nat.mod_lt _ (by decide)⟩ ⟨(y 1).val, (y 1).isLt⟩)

/-! ## The result blocks -/

/-- Window `w` of slab `s` of a scratch array. -/
def slab {N : ℕ} [NeZero N] (Z : (⟨4, ![3, N, 224, 128]⟩ : Shape).Idx → F .bf16) (s w : ℕ) : Vec F S1x1x224x128 .bf16 :=
  fun x => Z (ix4 (Fin.ofNat 3 s) (Fin.ofNat N w) ⟨(x 2).val, (x 2).isLt⟩ ⟨(x 3).val, (x 3).isLt⟩)

/-- Matrix `v` of the newest frame's weights. -/
def wbAt (Wb : Vec F S3x256x256 .bf16) (v : ℕ) : Vec F S1x256x256 .bf16 :=
  fun x => Wb (ix3 (Fin.ofNat 3 v) ⟨(x 1).val, (x 1).isLt⟩ ⟨(x 2).val, (x 2).isLt⟩)

/-- The block of features at the states, [1, output column, sample, channel], from the scratch array after the build. -/
def sBlock (n : ℕ) (Z : Vec F S3x20x224x128 .bf16) (Wa : Vec F S256x256 .bf16) (sc bi : FVec F S1x128 .f32) : Vec F S1x20x224x128 .bf16 :=
  fun y => k0_pay86 sc bi (slab Z (n + 1) (y 1).val) (slab Z (n + 2) (y 1).val) Wa (ix4 0 0 ⟨(y 2).val, (y 2).isLt⟩ ⟨(y 3).val, (y 3).isLt⟩)

/-- The product with the newest frame's weights for the pair of output columns `p`. -/
def lastProd (n : ℕ) (Z4 : Vec F S3x4x224x128 .bf16) (Wb : Vec F S3x256x256 .bf16) (p : ℕ) : FVec F S224x256 .f32 :=
  k0_pay72 (slab Z4 (n + 1) (p / 3)) (slab Z4 (n + 2) (p / 3)) (wbAt Wb (p % 3))

/-- The block of features at the successor states. -/
def nBlock (n : ℕ) (Z : Vec F S3x20x224x128 .bf16) (Z4 : Vec F S3x4x224x128 .bf16) (Wa : Vec F S256x256 .bf16) (Wb : Vec F S3x256x256 .bf16)
    (G : Vec F S224x128 .i32) (sc bi : FVec F S1x128 .f32) : Vec F S1x20x224x128 .bf16 :=
  fun y =>
    (if (y 1).val % 2 = 0 then
      k0_pay76 sc bi (lastProd n Z4 Wb ((y 1).val / 2)) (k0_pay73 (slab Z (n + 1) (y 1).val) (slab Z (n + 2) (y 1).val) Wa) G
    else
      k0_pay81 sc bi (lastProd n Z4 Wb ((y 1).val / 2)) (k0_pay73 (slab Z (n + 1) (y 1).val) (slab Z (n + 2) (y 1).val) Wa) G)
      (ix4 0 0 ⟨(y 2).val, (y 2).isLt⟩ ⟨(y 3).val, (y 3).isLt⟩)

end Cert.KernelIdeal.Conv

end
-- ==== Proof.Conv.Stores.lean ====
/-
  An array after a list of stores, each of which holds one function on its box: what it reads at every place. Then the two
  kinds of stores the kernel's body makes into its scratch arrays and into its result blocks, and its loads from them.
-/
module

public import Idealize.ShloMosaic.Lib.VecWindow
public import proofs.«01_k».proof.Proof.Conv.Tiles

@[expose] public section

noncomputable section

namespace Cert.KernelIdeal.Conv

open Idealize.ShloMosaic Cert.KernelIdeal.Gen

variable {F : FTy → Type} [FloatOps F]

/-- A store whose box is the places satisfying `P` and whose payload is the function `G` there. -/
structure Holds {S : Shape} {e : EltTy} (G : S.Idx → Elt F e) (P : S.Idx → Prop) (p : View.Piece (Elt F) S e) : Prop where
  mem : ∀ y, y ∈ p.1.set ↔ P y
  val : ∀ x : p.1.shape.Idx, p.2 x = G (p.1.emb x)

/-- After a list of such stores an array reads `G` wherever one of the boxes lies and what it held elsewhere. -/
theorem read_writes_holds {sig : RefSig} {κ : Kind} {sp : Space} {S : Shape} {e : EltTy} {ι : Type} (v : View sig κ sp S e)
    (f : v.ty.Contents (Elt F)) (G : S.Idx → Elt F e) (P : ι → S.Idx → Prop) (L : List (View.Piece (Elt F) S e)) (K : List ι)
    (h : List.Forall₂ (fun p k => Holds G (P k) p) L K) (y : S.Idx) :
    ((∃ k ∈ K, P k y) → v.read (Elt F) (v.writes (Elt F) f L) y = G y)
      ∧ ((∀ k ∈ K, ¬ P k y) → v.read (Elt F) (v.writes (Elt F) f L) y = v.read (Elt F) f y) := by
  have hL : (∀ q ∈ L, ∀ x : q.1.shape.Idx, q.2 x = G (q.1.emb x)) ∧ (∀ q ∈ L, ∃ k ∈ K, ∀ y, y ∈ q.1.set ↔ P k y)
      ∧ (∀ k ∈ K, ∃ q ∈ L, ∀ y, y ∈ q.1.set ↔ P k y) := by
    clear y
    induction h with
    | nil => simp
    | cons hd _ ih =>
      obtain ⟨i1, i2, i3⟩ := ih
      refine ⟨List.forall_mem_cons.2 ⟨hd.val, i1⟩, List.forall_mem_cons.2 ⟨⟨_, List.mem_cons_self, hd.mem⟩, ?_⟩,
        List.forall_mem_cons.2 ⟨⟨_, List.mem_cons_self, hd.mem⟩, ?_⟩⟩
      · intro q hq; obtain ⟨k, hk, e⟩ := i2 q hq; exact ⟨k, List.mem_cons_of_mem _ hk, e⟩
      · intro k hk; obtain ⟨q, hq, e⟩ := i3 k hk; exact ⟨q, List.mem_cons_of_mem _ hq, e⟩
  obtain ⟨h1, h2, h3⟩ := hL
  refine ⟨fun ⟨k, hk, hy⟩ => ?_, fun hn => ?_⟩
  · obtain ⟨q, hq, e⟩ := h3 k hk
    exact View.read_writes_apply_of_pieces v f G L h1 y ⟨q, hq, (e y).2 hy⟩
  · refine View.read_writes_apply_of_forall_not_mem v f y L fun q hq hm => ?_
    obtain ⟨k, hk, e⟩ := h2 q hq
    exact hn k hk ((e y).1 hm)

/-! ## The stores that build the scratch arrays -/

/-- The box of 112 samples from `k.2` on, in window `k.1` of slab `n % 3`. -/
def boxAt {N : ℕ} (n : ℕ) (k : ℕ × ℕ) (y : (⟨4, ![3, N, 224, 128]⟩ : Shape).Idx) : Prop :=
  (y 0).val = n % 3 ∧ (y 1).val = k.1 ∧ k.2 ≤ (y 2).val ∧ (y 2).val < k.2 + 112

/-- The boxes of `m` windows in the order the stores are listed, the last first: samples 112 on, then samples 0 on. -/
def boxKeys (m : ℕ) : List (ℕ × ℕ) := (List.range m).reverse.map (·, 112) ++ (List.range m).reverse.map (·, 0)

/-- A store of 128 bytes of 112 samples, turned to [sample, byte], holds the windows' function. -/
theorem holds_window {N R q : ℕ} [NeZero R] (cat : ℕ → FVec F ⟨2, ![R, 112]⟩ .bf16) (n w j0 o : ℕ) (off : Fin 4 → ℕ)
    (hoff : off = ![n % 3, w, j0, 0]) (inb : ∀ a, off a + S1x1x112x128.size a ≤ (⟨4, ![3, N, 224, 128]⟩ : Shape).size a)
    (c : FVec F ⟨2, ![R, 112]⟩ .bf16) (hc : c = cat j0) (ho : o = q * w) (hj : j0 = 0 ∨ j0 = 112)
    (h1 : (⟨2, ![R, 112]⟩ : Shape).Slices ![o, 0] S128x112) (h2 : S128x112.Transposes [1, 0] S112x128) (h3 : S112x128.ShapeCasts S1x1x112x128) :
    Holds (windows R q cat) (boxAt n (w, j0))
      (⟨Rect.unit (s := ⟨4, ![3, N, 224, 128]⟩) off S1x1x112x128.size inb,
        shapeCast S1x1x112x128 (transpose S112x128 [1, 0] (extractStridedSlice S128x112 ![o, 0] c h1) h2) h3⟩ : View.Piece (Elt F) ⟨4, ![3, N, 224, 128]⟩ .bf16) := by
  subst hoff hc ho
  constructor
  · intro y
    show y ∈ (Rect.unit (s := ⟨4, ![3, N, 224, 128]⟩) ![n % 3, w, j0, 0] S1x1x112x128.size inb).set ↔ _
    rw [Rect.mem_set_unit]
    unfold boxAt
    have y3 : (y 3).val < 128 := (y 3).isLt
    constructor
    · intro h
      have h0 := h 0; have h1 := h 1; have h2 := h 2
      simp at h0 h1 h2
      refine ⟨by omega, by omega, by omega, by omega⟩
    · rintro ⟨h0, h1, h2, h3⟩ a
      match a with
      | ⟨0, _⟩ => exact ⟨by show n % 3 ≤ (y 0).val; omega, by show (y 0).val < n % 3 + 1; omega⟩
      | ⟨1, _⟩ => exact ⟨by show w ≤ (y 1).val; simp at h1; omega, by show (y 1).val < w + 1; simp at h1; omega⟩
      | ⟨2, _⟩ => exact ⟨h2, h3⟩
      | ⟨3, _⟩ => exact ⟨Nat.zero_le _, by show (y 3).val < 0 + 128; omega⟩
  · intro (x : S1x1x112x128.Idx)
    have x2 : (x 2).val < 112 := (x 2).isLt
    have x3 : (x 3).val < 128 := (x 3).isLt
    have e1 : ((Rect.unit (s := ⟨4, ![3, N, 224, 128]⟩) ![n % 3, w, j0, 0] S1x1x112x128.size inb).emb x 1).val = w := by
      rw [Rect.emb_apply]; have : (x 1).val < 1 := (x 1).isLt; simp; omega
    have e2 : ((Rect.unit (s := ⟨4, ![3, N, 224, 128]⟩) ![n % 3, w, j0, 0] S1x1x112x128.size inb).emb x 2).val = j0 + (x 2).val := by
      rw [Rect.emb_apply]; simp
    have e3 : ((Rect.unit (s := ⟨4, ![3, N, 224, 128]⟩) ![n % 3, w, j0, 0] S1x1x112x128.size inb).emb x 3).val = (x 3).val := by
      rw [Rect.emb_apply]; simp
    have hR : q * w + 128 ≤ R := h1.2 0
    show shapeCast S1x1x112x128 (transpose S112x128 [1, 0] (extractStridedSlice S128x112 ![q * w, 0] (cat j0) h1) h2) h3 x
      = windows R q cat ((Rect.unit (s := ⟨4, ![3, N, 224, 128]⟩) ![n % 3, w, j0, 0] S1x1x112x128.size inb).emb x)
    unfold windows
    rw [e1, e2, e3]
    have ej : 112 * ((j0 + (x 2).val) / 112) = j0 := by omega
    rw [ej]
    refine (shapeCast_apply _ h3 x (ix2 ⟨(x 2).val, x2⟩ ⟨(x 3).val, x3⟩) ?_).trans ?_
    · rw [Shape.rowMajor_val_four, Shape.rowMajor_val_two]
      have x0 : (x 0).val < 1 := (x 0).isLt
      have x1 : (x 1).val < 1 := (x 1).isLt
      show (x 2).val * 128 + (x 3).val = (((x 0).val * 1 + (x 1).val) * 112 + (x 2).val) * 128 + (x 3).val
      omega
    refine (transpose_apply _ _ h2 _ (ix2 ⟨(x 3).val, x3⟩ ⟨(x 2).val, x2⟩) fun b => match b with | ⟨0, _⟩ => rfl | ⟨1, _⟩ => rfl).trans ?_
    refine extractStridedSlice_apply _ _ _ _ _ fun a => match a with | ⟨0, _⟩ => ?_ | ⟨1, _⟩ => ?_
    · show (q * w + (x 3).val) % R = q * w + (x 3).val
      exact Nat.mod_eq_of_lt (by omega)
    · show (j0 + (x 2).val) % 112 = 0 + (x 2).val
      omega

/-- Every window's two boxes are among the keys. -/
theorem mem_boxKeys {m w j : ℕ} (hw : w < m) (hj : j < 224) : (w, 112 * (j / 112)) ∈ boxKeys m := by
  unfold boxKeys
  simp only [List.mem_append, List.mem_map, List.mem_reverse, List.mem_range, Prod.mk.injEq]
  by_cases h : j < 112
  · right; exact ⟨w, hw, rfl, by omega⟩
  · left; exact ⟨w, hw, rfl, by omega⟩

/-- The keys of twenty windows and of four, written out. -/
theorem boxKeys_20 : boxKeys 20 = [(19, 112), (18, 112), (17, 112), (16, 112), (15, 112), (14, 112), (13, 112), (12, 112), (11, 112), (10, 112), (9, 112), (8, 112), (7, 112), (6, 112), (5, 112), (4, 112), (3, 112), (2, 112), (1, 112), (0, 112), (19, 0), (18, 0), (17, 0), (16, 0), (15, 0), (14, 0), (13, 0), (12, 0), (11, 0), (10, 0), (9, 0), (8, 0), (7, 0), (6, 0), (5, 0), (4, 0), (3, 0), (2, 0), (1, 0), (0, 0)] := rfl
theorem boxKeys_4 : boxKeys 4 = [(3, 112), (2, 112), (1, 112), (0, 112), (3, 0), (2, 0), (1, 0), (0, 0)] := rfl
theorem reverse_range_20 : (List.range 20).reverse = [19, 18, 17, 16, 15, 14, 13, 12, 11, 10, 9, 8, 7, 6, 5, 4, 3, 2, 1, 0] := rfl

/-- After the stores that build one slab of a scratch array, it reads `slabSet`. -/
theorem read_writes_windows {sig : RefSig} {κ : Kind} {sp : Space} {N R q : ℕ} [NeZero R] (v : View sig κ sp (⟨4, ![3, N, 224, 128]⟩ : Shape) .bf16)
    (f : v.ty.Contents (Elt F)) (cat : ℕ → FVec F ⟨2, ![R, 112]⟩ .bf16) (n : ℕ) (L : List (View.Piece (Elt F) ⟨4, ![3, N, 224, 128]⟩ .bf16))
    (h : List.Forall₂ (fun p k => Holds (windows R q cat) (boxAt n k) p) L (boxKeys N)) :
    v.read (Elt F) (v.writes (Elt F) f L) = slabSet n (windows R q cat) (v.read (Elt F) f) := by
  funext y
  obtain ⟨h1, h2⟩ := read_writes_holds v f _ _ L _ h y
  unfold slabSet
  have y1 : (y 1).val < N := (y 1).isLt
  have y2 : (y 2).val < 224 := (y 2).isLt
  by_cases hy : (y 0).val = n % 3
  · rw [if_pos hy]
    exact h1 ⟨_, mem_boxKeys y1 y2, hy, rfl, by show 112 * ((y 2).val / 112) ≤ (y 2).val; omega, by show (y 2).val < 112 * ((y 2).val / 112) + 112; omega⟩
  · rw [if_neg hy]
    exact h2 fun k _ hk => hy hk.1

/-! ## The stores that write the result blocks -/

/-- A list of stores whose first one in time is `p0`, the later ones standing in a relation to keys. -/
theorem split_first {α β : Type*} {R : α → β → Prop} {p0 : α} : ∀ (ks : List β) (L : List α),
    List.Forall₂ (fun p (k : Option β) => k.elim (p = p0) (R p)) L (ks.map some ++ [none]) → ∃ L', L = L' ++ [p0] ∧ List.Forall₂ R L' ks
  | [], _, .cons h .nil => ⟨[], by rw [show _ = p0 from h]; rfl, .nil⟩
  | _ :: ks, _, .cons h t => by
    obtain ⟨L', rfl, h'⟩ := split_first ks _ t
    exact ⟨_ :: L', rfl, .cons h h'⟩

/-- The same where a store of the whole buffer comes before the stores that build the slab. -/
theorem read_writes_windows_over {N R q : ℕ} [NeZero N] [NeZero R] {sig : RefSig} {κ : Kind} {sp : Space}
    (v : View sig κ sp ⟨4, ![3, N, 224, 128]⟩ .bf16) (f : v.ty.Contents (Elt F))
    (cat : ℕ → FVec F ⟨2, ![R, 112]⟩ .bf16) (n : ℕ) (L : List (View.Piece (Elt F) ⟨4, ![3, N, 224, 128]⟩ .bf16))
    (z : FVec F ⟨4, ![3, N, 224, 128]⟩ .bf16) (off : Fin 4 → ℕ)
    (inb : ∀ a, off a + (⟨4, ![3, N, 224, 128]⟩ : Shape).size a ≤ (⟨4, ![3, N, 224, 128]⟩ : Shape).size a)
    (h : List.Forall₂ (fun p (k : Option (ℕ × ℕ)) => k.elim (p = ⟨Rect.unit off (⟨4, ![3, N, 224, 128]⟩ : Shape).size inb, z⟩)
      (fun k => Holds (windows R q cat) (boxAt n k) p)) L ((boxKeys N).map some ++ [none])) :
    v.read (Elt F) (v.writes (Elt F) f L) = slabSet n (windows R q cat) z := by
  obtain ⟨L', rfl, h'⟩ := split_first (R := fun p k => Holds (windows R q cat) (boxAt n k) p) (p0 := ⟨Rect.unit off (⟨4, ![3, N, 224, 128]⟩ : Shape).size inb, z⟩) (boxKeys N) L h
  rw [View.writes_append, read_writes_windows v _ cat n L' h', View.read_writes_full]

/-- A store of one output column of a result block holds the block's function. -/
theorem holds_column (G : S1x20x224x128.Idx → F .bf16) (w : ℕ) (hw : w < 20)
    (inb : ∀ a, (![0, w, 0, 0] : Fin 4 → ℕ) a + S1x1x224x128.size a ≤ S1x20x224x128.size a) (p : Vec F S1x1x224x128 .bf16)
    (hp : ∀ (j : Fin 224) (d : Fin 128), p (ix4 0 0 j d) = G (ix4 0 ⟨w, hw⟩ j d)) :
    Holds G (fun y => (y 1).val = w) (⟨Rect.unit (s := S1x20x224x128) ![0, w, 0, 0] S1x1x224x128.size inb, p⟩ : View.Piece (Elt F) S1x20x224x128 .bf16) := by
  constructor
  · intro y
    show y ∈ (Rect.unit (s := S1x20x224x128) ![0, w, 0, 0] S1x1x224x128.size inb).set ↔ _
    rw [Rect.mem_set_unit]
    have y0 : (y 0).val < 1 := (y 0).isLt
    have y2 : (y 2).val < 224 := (y 2).isLt
    have y3 : (y 3).val < 128 := (y 3).isLt
    constructor
    · intro h
      have h1 := h 1
      simp at h1
      show (y 1).val = w
      omega
    · intro h1 a
      match a with
      | ⟨0, _⟩ => exact ⟨Nat.zero_le _, by show (y 0).val < 0 + 1; omega⟩
      | ⟨1, _⟩ => exact ⟨by show w ≤ (y 1).val; omega, by show (y 1).val < w + 1; omega⟩
      | ⟨2, _⟩ => exact ⟨Nat.zero_le _, by show (y 2).val < 0 + 224; omega⟩
      | ⟨3, _⟩ => exact ⟨Nat.zero_le _, by show (y 3).val < 0 + 128; omega⟩
  · intro (x : S1x1x224x128.Idx)
    have x0 : (x 0).val < 1 := (x 0).isLt
    have x1 : (x 1).val < 1 := (x 1).isLt
    have ex : x = ix4 (n0 := 1) (n1 := 1) (n2 := 224) (n3 := 128) 0 0 (x 2) (x 3) := by
      funext a
      match a with
      | ⟨0, _⟩ => exact Fin.ext (by show (x 0).val = 0; omega)
      | ⟨1, _⟩ => exact Fin.ext (by show (x 1).val = 0; omega)
      | ⟨2, _⟩ => rfl
      | ⟨3, _⟩ => rfl
    refine ((congrArg p ex).trans (hp _ _)).trans (congrArg G (funext fun a => Fin.ext ?_))
    rw [Rect.emb_apply]
    match a with
    | ⟨0, _⟩ => show 0 = 0 + 1 * (x 0).val; omega
    | ⟨1, _⟩ => show w = w + 1 * (x 1).val; omega
    | ⟨2, _⟩ => show (x 2).val = 0 + 1 * (x 2).val; omega
    | ⟨3, _⟩ => show (x 3).val = 0 + 1 * (x 3).val; omega

/-- After the stores of all twenty output columns a result block reads its function. -/
theorem read_writes_columns {sig : RefSig} {κ : Kind} {sp : Space} (v : View sig κ sp S1x20x224x128 .bf16) (f : v.ty.Contents (Elt F))
    (G : S1x20x224x128.Idx → F .bf16) (L : List (View.Piece (Elt F) S1x20x224x128 .bf16))
    (h : List.Forall₂ (fun p (w : ℕ) => Holds G (fun y => (y 1).val = w) p) L (List.range 20).reverse) :
    v.read (Elt F) (v.writes (Elt F) f L) = G := by
  funext y
  refine (read_writes_holds v f G (fun (w : ℕ) y => (y 1).val = w) L _ h y).1 ⟨(y 1).val, ?_, rfl⟩
  rw [List.mem_reverse, List.mem_range]
  exact (y 1).isLt

/-! ## The loads -/

variable {sig : RefSig} {κ : Kind} {sp : Space}

/-- A strided load of 112 rows of the band's words. -/
theorem load_rows {m : Memref sig κ sp S896x128 .i32} (h : m.IsWhole) (x0 : Vec F S896x128 .i32) (o : ℕ) (inb) :
    m.view.readAt (Elt F) (⟨![o, 0], S112x128.size, ![4, 1], inb⟩ : LoadRect S896x128) (h.unread x0) = rows x0 o := by
  funext y
  rw [h.readAt_unread]
  unfold rows
  have hy : (y 0).val < 112 := (y 0).isLt
  refine congrArg x0 (funext fun a => Fin.ext ?_)
  have h0 := inb 0
  match a with
  | ⟨0, _⟩ =>
    show o + 4 * (y 0).val = (o + 4 * (y 0).val) % 896
    refine (Nat.mod_eq_of_lt ?_).symm
    have : o + 4 * (112 - 1) < 896 := by simpa using h0
    omega
  | ⟨1, _⟩ => show 0 + 1 * (y 1).val = (y 1).val; omega

/-- The bytes of word tiles 0 to 2 from the loads of their rows. -/
theorem load_cols3 {m : Memref sig κ sp S896x128 .i32} (h : m.IsWhole) (x0 : Vec F S896x128 .i32) (j0 o1 o2 o3 : ℕ) (i1 i2 i3)
    (e1 : o1 = 4 * j0) (e2 : o2 = 4 * j0 + 1) (e3 : o3 = 4 * j0 + 2) :
    k0_pay10 (m.view.readAt (Elt F) (⟨![o1, 0], S112x128.size, ![4, 1], i1⟩ : LoadRect S896x128) (h.unread x0))
      (m.view.readAt (Elt F) (⟨![o2, 0], S112x128.size, ![4, 1], i2⟩ : LoadRect S896x128) (h.unread x0))
      (m.view.readAt (Elt F) (⟨![o3, 0], S112x128.size, ![4, 1], i3⟩ : LoadRect S896x128) (h.unread x0)) = cols3 x0 j0 := by
  subst e1 e2 e3
  rw [load_rows, load_rows, load_rows]; rfl

/-- The bytes of word tile 3 from the load of its rows. -/
theorem load_cols1 {m : Memref sig κ sp S896x128 .i32} (h : m.IsWhole) (x0 : Vec F S896x128 .i32) (j0 o : ℕ) (i1) (e1 : o = 4 * j0 + 3) :
    k0_pay35 (m.view.readAt (Elt F) (⟨![o, 0], S112x128.size, ![4, 1], i1⟩ : LoadRect S896x128) (h.unread x0)) = cols1 x0 j0 := by
  subst e1
  rw [load_rows]; rfl

/-- A load of one window of one slab of a scratch array. -/
theorem load_slab {N : ℕ} [NeZero N] (v : View sig κ sp (⟨4, ![3, N, 224, 128]⟩ : Shape) .bf16) (f : v.ty.Contents (Elt F))
    (Z : (⟨4, ![3, N, 224, 128]⟩ : Shape).Idx → F .bf16) (hZ : v.read (Elt F) f = Z) (s w : ℕ) (off : Fin 4 → ℕ) (hoff : off = ![s % 3, w, 0, 0]) (inb) :
    v.readAt (Elt F) (Rect.unit (s := ⟨4, ![3, N, 224, 128]⟩) off S1x1x224x128.size inb).toLoadRect f = slab Z s w := by
  subst hoff hZ
  funext x
  have x0 : (x 0).val < 1 := (x 0).isLt
  have x1 : (x 1).val < 1 := (x 1).isLt
  have hw : w + 1 ≤ N := inb 1
  rw [View.readAt_apply]
  unfold slab
  refine congrArg (v.read (Elt F) f) (funext fun a => Fin.ext ?_)
  match a with
  | ⟨0, _⟩ => show s % 3 + 1 * (x 0).val = s % 3; omega
  | ⟨1, _⟩ =>
    have e : w % N = w := Nat.mod_eq_of_lt hw
    show w + 1 * (x 1).val = w % N
    omega
  | ⟨2, _⟩ => show 0 + 1 * (x 2).val = (x 2).val; omega
  | ⟨3, _⟩ => show 0 + 1 * (x 3).val = (x 3).val; omega

/-- A load of one of the newest frame's matrices. -/
theorem load_wb (v : View sig κ sp S3x256x256 .bf16) (f : v.ty.Contents (Elt F)) (W : Vec F S3x256x256 .bf16) (hW : v.read (Elt F) f = W) (u : ℕ) (inb) :
    v.readAt (Elt F) (Rect.unit (s := S3x256x256) ![u, 0, 0] S1x256x256.size inb).toLoadRect f = wbAt W u := by
  subst hW
  funext x
  have x0 : (x 0).val < 1 := (x 0).isLt
  have hu : u + 1 ≤ 3 := inb 0
  rw [View.readAt_apply]
  unfold wbAt
  refine congrArg (v.read (Elt F) f) (funext fun a => Fin.ext ?_)
  match a with
  | ⟨0, _⟩ => show u + 1 * (x 0).val = u % 3; omega
  | ⟨1, _⟩ => show 0 + 1 * (x 1).val = (x 1).val; omega
  | ⟨2, _⟩ => show 0 + 1 * (x 2).val = (x 2).val; omega

/-- A load of a whole matrix. -/
theorem load_whole2 {e : EltTy} {a b : ℕ} (v : View sig κ sp (⟨2, ![a, b]⟩ : Shape) e) (f : v.ty.Contents (Elt F)) (W : (⟨2, ![a, b]⟩ : Shape).Idx → Elt F e)
    (hW : v.read (Elt F) f = W) (inb) :
    v.readAt (Elt F) (Rect.unit (s := ⟨2, ![a, b]⟩) ![0, 0] (⟨2, ![a, b]⟩ : Shape).size inb).toLoadRect f = W := by
  subst hW
  funext x
  rw [View.readAt_apply]
  refine congrArg (v.read (Elt F) f) (funext fun c => Fin.ext ?_)
  match c with
  | ⟨0, _⟩ => show 0 + 1 * (x 0).val = (x 0).val; omega
  | ⟨1, _⟩ => show 0 + 1 * (x 1).val = (x 1).val; omega

/-- The load of a whole three-axis buffer. -/
theorem load_whole3 {e : EltTy} (v : View sig κ sp S3x256x256 e) (f : v.ty.Contents (Elt F)) (W : S3x256x256.Idx → Elt F e)
    (hW : v.read (Elt F) f = W) (inb) :
    v.readAt (Elt F) (Rect.unit (s := S3x256x256) ![0, 0, 0] S3x256x256.size inb).toLoadRect f = W :=
  (View.readAt_full v f inb).trans hW

/-- The gate from the load of the words that carry the flags. -/
theorem load_gate {m : Memref sig κ sp S896x128 .i32} (h : m.IsWhole) (x0 : Vec F S896x128 .i32) (o : ℕ) (inb) (e : o = 3) :
    k0_pay6 (m.view.readAt (Elt F) (⟨![o, 0], S224x128.size, ![4, 1], inb⟩ : LoadRect S896x128) (h.unread x0)) = gateOf x0 := by
  subst e
  unfold gateOf
  refine congrArg k0_pay6 ?_
  funext y
  rw [h.readAt_unread]
  have hy : (y 0).val < 224 := (y 0).isLt
  refine congrArg x0 (funext fun a => Fin.ext ?_)
  match a with
  | ⟨0, _⟩ =>
    show 3 + 4 * (y 0).val = (3 + 4 * (y 0).val) % 896
    omega
  | ⟨1, _⟩ =>
    show 0 + 1 * (y 1).val = (y 1).val
    omega

end Cert.KernelIdeal.Conv

end
-- ==== Proof.Conv.Columns.lean ====
/-
  The stores of one output column of the two result blocks, as the body spells them from its loads: each holds the block's
  function on that column.
-/
module

public import proofs.«01_k».proof.Proof.Conv.Stores

@[expose] public section

noncomputable section

namespace Cert.KernelIdeal.Conv

open Idealize.ShloMosaic Cert.KernelIdeal.Gen

variable {F : FTy → Type} [FloatOps F] {sig : RefSig} {κ : Kind} {sp : Space}

/-- The load of window `w` of slab `s % 3` spelt with its offsets. -/
abbrev ldSlab {N : ℕ} (v : View sig κ sp (⟨4, ![3, N, 224, 128]⟩ : Shape) .bf16) (f : v.ty.Contents (Elt F)) (off : Fin 4 → ℕ)
    (inb : ∀ a, off a + S1x1x224x128.size a ≤ (⟨4, ![3, N, 224, 128]⟩ : Shape).size a) : Vec F S1x1x224x128 .bf16 :=
  v.readAt (Elt F) (Rect.unit (s := ⟨4, ![3, N, 224, 128]⟩) off S1x1x224x128.size inb).toLoadRect f

/-- The load of a whole matrix. -/
abbrev ldMat {a b : ℕ} {e : EltTy} (v : View sig κ sp (⟨2, ![a, b]⟩ : Shape) e) (f : v.ty.Contents (Elt F))
    (inb : ∀ c, (![0, 0] : Fin 2 → ℕ) c + (⟨2, ![a, b]⟩ : Shape).size c ≤ (⟨2, ![a, b]⟩ : Shape).size c) : (⟨2, ![a, b]⟩ : Shape).Idx → Elt F e :=
  v.readAt (Elt F) (Rect.unit (s := ⟨2, ![a, b]⟩) ![0, 0] (⟨2, ![a, b]⟩ : Shape).size inb).toLoadRect f

/-- The load of one of the newest frame's matrices. -/
abbrev ldWb (v : View sig κ sp S3x256x256 .bf16) (f : v.ty.Contents (Elt F)) (u : ℕ)
    (inb : ∀ c, (![u, 0, 0] : Fin 3 → ℕ) c + S1x256x256.size c ≤ S3x256x256.size c) : Vec F S1x256x256 .bf16 :=
  v.readAt (Elt F) (Rect.unit (s := S3x256x256) ![u, 0, 0] S1x256x256.size inb).toLoadRect f

section
variable (n w : ℕ) (hw : w < 20)
  (v8 : View sig κ sp S3x20x224x128 .bf16) (f8 : v8.ty.Contents (Elt F)) (Z : Vec F S3x20x224x128 .bf16) (h8 : v8.read (Elt F) f8 = Z)
  (v10 : View sig κ sp S256x256 .bf16) (f10 : v10.ty.Contents (Elt F)) (Wa : Vec F S256x256 .bf16) (h10 : v10.read (Elt F) f10 = Wa)
  (v4 : View sig κ sp S1x128 .f32) (f4 : v4.ty.Contents (Elt F)) (x3 : Vec F S1x128 .f32) (h4 : v4.read (Elt F) f4 = x3)
  (v5 : View sig κ sp S1x128 .f32) (f5 : v5.ty.Contents (Elt F)) (x4 : Vec F S1x128 .f32) (h5 : v5.read (Elt F) f5 = x4)
  (o1 o2 : Fin 4 → ℕ) (ho1 : o1 = ![(n + 1) % 3, w, 0, 0]) (ho2 : o2 = ![(n + 2) % 3, w, 0, 0]) (i1 i2 inb ia i4 i5)

include hw h8 h10 h4 h5 ho1 ho2 in
/-- One column of the block of features at the states. -/
theorem holds_s :
    Holds (sBlock n Z Wa (k0_pay8 x3) (k0_pay9 x4)) (fun y => (y 1).val = w)
      (⟨Rect.unit (s := S1x20x224x128) ![0, w, 0, 0] S1x1x224x128.size inb,
        k0_pay86 (k0_pay8 (ldMat v4 f4 i4)) (k0_pay9 (ldMat v5 f5 i5)) (ldSlab v8 f8 o1 i1) (ldSlab v8 f8 o2 i2) (ldMat v10 f10 ia)⟩ : View.Piece (Elt F) S1x20x224x128 .bf16) := by
  refine holds_column _ w hw inb _ fun j d => ?_
  rw [show ldMat v4 f4 i4 = x3 from load_whole2 v4 f4 x3 h4 i4, show ldMat v5 f5 i5 = x4 from load_whole2 v5 f5 x4 h5 i5,
    show ldMat v10 f10 ia = Wa from load_whole2 v10 f10 Wa h10 ia,
    show ldSlab v8 f8 o1 i1 = _ from load_slab v8 f8 Z h8 (n + 1) w o1 ho1 i1, show ldSlab v8 f8 o2 i2 = _ from load_slab v8 f8 Z h8 (n + 2) w o2 ho2 i2]
  rfl

variable (v9 : View sig κ sp S3x4x224x128 .bf16) (f9 : v9.ty.Contents (Elt F)) (Z4 : Vec F S3x4x224x128 .bf16) (h9 : v9.read (Elt F) f9 = Z4)
  (v11 : View sig κ sp S3x256x256 .bf16) (f11 : v11.ty.Contents (Elt F)) (Wb : Vec F S3x256x256 .bf16) (h11 : v11.read (Elt F) f11 = Wb)
  (v12 : View sig κ sp S224x128 .i32) (f12 : v12.ty.Contents (Elt F)) (G : Vec F S224x128 .i32) (h12 : v12.read (Elt F) f12 = G)
  (q u : ℕ) (hq : w / 2 / 3 = q) (hu : w / 2 % 3 = u)
  (o3 o4 : Fin 4 → ℕ) (ho3 : o3 = ![(n + 1) % 3, q, 0, 0]) (ho4 : o4 = ![(n + 2) % 3, q, 0, 0]) (i3 i6 ib ig)

include hw h8 h10 h4 h5 ho1 ho2 h9 h11 h12 hq hu ho3 ho4 in
/-- One even column of the block of features at the successor states. -/
theorem holds_n_even (hp : w % 2 = 0) :
    Holds (nBlock n Z Z4 Wa Wb G (k0_pay8 x3) (k0_pay9 x4)) (fun y => (y 1).val = w)
      (⟨Rect.unit (s := S1x20x224x128) ![0, w, 0, 0] S1x1x224x128.size inb,
        k0_pay76 (k0_pay8 (ldMat v4 f4 i4)) (k0_pay9 (ldMat v5 f5 i5)) (k0_pay72 (ldSlab v9 f9 o3 i3) (ldSlab v9 f9 o4 i6) (ldWb v11 f11 u ib))
          (k0_pay73 (ldSlab v8 f8 o1 i1) (ldSlab v8 f8 o2 i2) (ldMat v10 f10 ia)) (ldMat v12 f12 ig)⟩ : View.Piece (Elt F) S1x20x224x128 .bf16) := by
  refine holds_column _ w hw inb _ fun j d => ?_
  rw [show ldMat v4 f4 i4 = x3 from load_whole2 v4 f4 x3 h4 i4, show ldMat v5 f5 i5 = x4 from load_whole2 v5 f5 x4 h5 i5,
    show ldMat v10 f10 ia = Wa from load_whole2 v10 f10 Wa h10 ia, show ldMat v12 f12 ig = G from load_whole2 v12 f12 G h12 ig,
    show ldSlab v8 f8 o1 i1 = _ from load_slab v8 f8 Z h8 (n + 1) w o1 ho1 i1, show ldSlab v8 f8 o2 i2 = _ from load_slab v8 f8 Z h8 (n + 2) w o2 ho2 i2,
    show ldSlab v9 f9 o3 i3 = _ from load_slab v9 f9 Z4 h9 (n + 1) q o3 ho3 i3, show ldSlab v9 f9 o4 i6 = _ from load_slab v9 f9 Z4 h9 (n + 2) q o4 ho4 i6,
    show ldWb v11 f11 u ib = _ from load_wb v11 f11 Wb h11 u ib]
  subst hq hu
  show _ = (if w % 2 = 0 then _ else _ : Vec F S1x1x224x128 .bf16) _
  rw [if_pos hp]
  rfl

include hw h8 h10 h4 h5 ho1 ho2 h9 h11 h12 hq hu ho3 ho4 in
/-- One odd column. -/
theorem holds_n_odd (hp : w % 2 = 1) :
    Holds (nBlock n Z Z4 Wa Wb G (k0_pay8 x3) (k0_pay9 x4)) (fun y => (y 1).val = w)
      (⟨Rect.unit (s := S1x20x224x128) ![0, w, 0, 0] S1x1x224x128.size inb,
        k0_pay81 (k0_pay8 (ldMat v4 f4 i4)) (k0_pay9 (ldMat v5 f5 i5)) (k0_pay72 (ldSlab v9 f9 o3 i3) (ldSlab v9 f9 o4 i6) (ldWb v11 f11 u ib))
          (k0_pay73 (ldSlab v8 f8 o1 i1) (ldSlab v8 f8 o2 i2) (ldMat v10 f10 ia)) (ldMat v12 f12 ig)⟩ : View.Piece (Elt F) S1x20x224x128 .bf16) := by
  refine holds_column _ w hw inb _ fun j d => ?_
  rw [show ldMat v4 f4 i4 = x3 from load_whole2 v4 f4 x3 h4 i4, show ldMat v5 f5 i5 = x4 from load_whole2 v5 f5 x4 h5 i5,
    show ldMat v10 f10 ia = Wa from load_whole2 v10 f10 Wa h10 ia, show ldMat v12 f12 ig = G from load_whole2 v12 f12 G h12 ig,
    show ldSlab v8 f8 o1 i1 = _ from load_slab v8 f8 Z h8 (n + 1) w o1 ho1 i1, show ldSlab v8 f8 o2 i2 = _ from load_slab v8 f8 Z h8 (n + 2) w o2 ho2 i2,
    show ldSlab v9 f9 o3 i3 = _ from load_slab v9 f9 Z4 h9 (n + 1) q o3 ho3 i3, show ldSlab v9 f9 o4 i6 = _ from load_slab v9 f9 Z4 h9 (n + 2) q o4 ho4 i6,
    show ldWb v11 f11 u ib = _ from load_wb v11 f11 Wb h11 u ib]
  subst hq hu
  show _ = (if w % 2 = 0 then _ else _ : Vec F S1x1x224x128 .bf16) _
  rw [if_neg (by omega)]
  rfl
end

end Cert.KernelIdeal.Conv

end
-- ==== Proof.Conv.First.lean ====
/-
  The kernel's body at the first point, as a triple: from a band's words, the weights, the scale and the bias it leaves the
  scratch arrays with one slab built over zeros, the cast weights, the episode gate, and the two result blocks.
-/
module

public import proofs.«01_k».proof.Proof.Conv.Points
public import proofs.«01_k».proof.Proof.Conv.Columns

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

-- the run's proof term is large: checking it walks past the default budget
set_option maxHeartbeats 4000000 in
/-- The body at the first point: the weights are cast, the windows' slabs cleared and the episode gate set before the rest. -/
theorem body_first (c : Dev nD) (i : grid0.Coords)
    (arg1 : Memref sig .tc .vmem S896x128 .i32) (harg1 : arg1.IsWhole)
    (arg2 : Memref sig .tc .vmem S256x256 .fp8e4m3) (harg2 : arg2.IsWhole)
    (arg3 : Memref sig .tc .vmem S3x256x256 .fp8e4m3) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x20x224x128 .bf16) (harg6 : arg6.IsWhole)
    (arg7 : Memref sig .tc .vmem S1x20x224x128 .bf16) (harg7 : arg7.IsWhole)
    (arg8 : Memref sig .tc .vmem S3x20x224x128 .bf16) (harg8 : arg8.IsWhole)
    (arg9 : Memref sig .tc .vmem S3x4x224x128 .bf16) (harg9 : arg9.IsWhole)
    (arg10 : Memref sig .tc .vmem S256x256 .bf16) (harg10 : arg10.IsWhole)
    (arg11 : Memref sig .tc .vmem S3x256x256 .bf16) (harg11 : arg11.IsWhole)
    (arg12 : Memref sig .tc .vmem S224x128 .i32) (harg12 : arg12.IsWhole) (hc0 : isFirst i)
    (x0 : Vec F S896x128 .i32) (x1 : Vec F S256x256 .fp8e4m3) (x2 : Vec F S3x256x256 .fp8e4m3) (x3 x4 : Vec F S1x128 .f32)
    (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (sBlock (i 0).val (zNext (i 0).val x0 k0_pay4) (k0_pay2 x1) (k0_pay8 x3) (k0_pay9 x4))
            ∗ owns (c : Thread nD τ) arg7 fullShare (nBlock (i 0).val (zNext (i 0).val x0 k0_pay4) (z4Next (i 0).val x0 k0_pay5) (k0_pay2 x1) (k0_pay3 x2) (k0_pay7 (gateOf x0)) (k0_pay8 x3) (k0_pay9 x4))
            ∗ owns (c : Thread nD τ) arg8 fullShare (zNext (i 0).val x0 k0_pay4) ∗ owns (c : Thread nD τ) arg9 fullShare (z4Next (i 0).val x0 k0_pay5)
            ∗ owns (c : Thread nD τ) arg10 fullShare (k0_pay2 x1) ∗ owns (c : Thread nD τ) arg11 fullShare (k0_pay3 x2) ∗ owns (c : Thread nD τ) arg12 fullShare (k0_pay7 (gateOf x0))) -∗ K ()))
      ⊢ wp frame (wpE (defs₀ (F := F)) Variants.none c none) E
          (cc0_replay_conv i arg1 harg1 arg2 harg2 arg3 harg3 arg4 harg4 arg5 harg5 arg6 harg6 arg7 harg7 arg8 harg8 arg9 harg9 arg10 harg10 arg11 harg11 arg12 harg12) K := by
  simp only [cc0_replay_conv_eq_skeleton]; unfold cc0_replay_conv_skel
  simp only [k0_part35_eq_skeleton, k0_part2_eq_skeleton, k0_part3_eq_skeleton,
    k0_part4_eq_skeleton, k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton, k0_part21_eq_skeleton,
    k0_part22_eq_skeleton, k0_part23_eq_skeleton, k0_part24_eq_skeleton, k0_part25_eq_skeleton, k0_part26_eq_skeleton, k0_part27_eq_skeleton,
    k0_part28_eq_skeleton, k0_part29_eq_skeleton, k0_part30_eq_skeleton, k0_part31_eq_skeleton, k0_part32_eq_skeleton, k0_part33_eq_skeleton,
    k0_part34_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩,
    ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | sl_exact hc0)
  sl_step
  have hZ : arg8.view.read (Elt F) (arg8.view.writes (Elt F) fs0 (body_first.sl.HS0_41 c i arg1 harg1 x0)) = zNext (i 0).val x0 k0_pay4 := by
    refine read_writes_windows_over arg8.view fs0 (cols3 x0) (i 0).val _ k0_pay4 ![0, 0, 0, 0] (by decide) ?_
    rw [boxKeys_20]
    simp only [List.map_cons, List.map_nil, List.cons_append, List.nil_append]
    repeat' apply List.Forall₂.cons
    all_goals first
      | exact List.Forall₂.nil
      | exact holds_window (cols3 x0) (i 0).val _ _ _ _ ClosedOff.eq _ _ (load_cols3 harg1 x0 _ _ _ _ _ _ _ rfl rfl rfl) rfl (by decide) (by decide) _ _
      | exact rfl
  have hZ4 : arg9.view.read (Elt F) (arg9.view.writes (Elt F) fs1 (body_first.sl.HS1_9 c i arg1 harg1 x0)) = z4Next (i 0).val x0 k0_pay5 := by
    refine read_writes_windows_over arg9.view fs1 (cols1 x0) (i 0).val _ k0_pay5 ![0, 0, 0, 0] (by decide) ?_
    rw [boxKeys_4]
    simp only [List.map_cons, List.map_nil, List.cons_append, List.nil_append]
    repeat' apply List.Forall₂.cons
    all_goals first
      | exact List.Forall₂.nil
      | exact holds_window (cols1 x0) (i 0).val _ _ _ _ ClosedOff.eq _ _ (load_cols1 harg1 x0 _ _ _ rfl) rfl (by decide) (by decide) _ _
      | exact rfl
  have hWa : ∀ f, arg10.view.read (Elt F) (arg10.view.writes (Elt F) f (body_first.sl.HS2_1 c arg2 harg2 x1)) = k0_pay2 x1 := fun f =>
    (View.read_writes_full arg10.view f _ _ _).trans (congrArg k0_pay2 (load_whole2 arg2.view _ x1 hf1 _))
  have hWb : ∀ f, arg11.view.read (Elt F) (arg11.view.writes (Elt F) f (body_first.sl.HS3_1 c arg3 harg3 x2)) = k0_pay3 x2 := fun f =>
    (View.read_writes_full arg11.view f _ _ _).trans (congrArg k0_pay3 (load_whole3 arg3.view _ x2 hf2 _))
  have hG : ∀ f, arg12.view.read (Elt F) (arg12.view.writes (Elt F) f (body_first.sl.HS4_1 c arg1 harg1 x0)) = k0_pay7 (gateOf x0) := fun f =>
    (View.read_writes_full arg12.view f _ _ _).trans (congrArg k0_pay7 (load_gate harg1 x0 _ _ rfl))
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine read_writes_columns arg6.view _ _ _ ?_
    rw [reverse_range_20]
    repeat' apply List.Forall₂.cons
    all_goals first
      | exact List.Forall₂.nil
      | exact holds_s _ _ (by decide) _ _ _ hZ _ _ _ (hWa _) _ _ _ (harg4.read_unread _) _ _ _ (harg5.read_unread _) _ _ ClosedOff.eq ClosedOff.eq _ _ _ _ _ _
  isplitl [H6]
  · iexists _; isplitr; swap; · iexact H6
    ipureintro
    refine read_writes_columns arg7.view _ _ _ ?_
    rw [reverse_range_20]
    repeat' apply List.Forall₂.cons
    iterate 10
      exact holds_n_odd _ _ (by decide) _ _ _ hZ _ _ _ (hWa _) _ _ _ (harg4.read_unread _) _ _ _ (harg5.read_unread _) _ _ ClosedOff.eq ClosedOff.eq
          _ _ _ _ _ _ _ _ _ hZ4 _ _ _ (hWb _) _ _ _ (hG _) _ _ (by decide) (by decide) _ _ ClosedOff.eq ClosedOff.eq _ _ _ _ (by decide)
      exact holds_n_even _ _ (by decide) _ _ _ hZ _ _ _ (hWa _) _ _ _ (harg4.read_unread _) _ _ _ (harg5.read_unread _) _ _ ClosedOff.eq ClosedOff.eq
          _ _ _ _ _ _ _ _ _ hZ4 _ _ _ (hWb _) _ _ _ (hG _) _ _ (by decide) (by decide) _ _ ClosedOff.eq ClosedOff.eq _ _ _ _ (by decide)
    exact List.Forall₂.nil
  isplitl [HS0]
  · iexists _; isplitr; swap; · iexact HS0
    ipureintro
    exact hZ
  isplitl [HS1]
  · iexists _; isplitr; swap; · iexact HS1
    ipureintro
    exact hZ4
  isplitl [HS2]
  · iexists _; isplitr; swap; · iexact HS2
    ipureintro; exact hWa _
  isplitl [HS3]
  · iexists _; isplitr; swap; · iexact HS3
    ipureintro; exact hWb _
  iexists _; isplitr; swap; · iexact HS4
  ipureintro; exact hG _

end Cert.KernelIdeal.Conv

end
-- ==== Proof.Conv.Later.lean ====
/-
  The kernel's body at a point after the first, as a triple: from a band's words and scratch arrays with known contents it
  leaves the scratch arrays with one slab built anew and the two result blocks.
-/
module

public import proofs.«01_k».proof.Proof.Conv.Points
public import proofs.«01_k».proof.Proof.Conv.Columns

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

-- the run's proof term is large: checking it walks past the default budget
set_option maxHeartbeats 4000000 in
/-- The body where the first-point branch is not taken. -/
theorem body_later (c : Dev nD) (i : grid0.Coords)
    (arg1 : Memref sig .tc .vmem S896x128 .i32) (harg1 : arg1.IsWhole)
    (arg2 : Memref sig .tc .vmem S256x256 .fp8e4m3) (harg2 : arg2.IsWhole)
    (arg3 : Memref sig .tc .vmem S3x256x256 .fp8e4m3) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x20x224x128 .bf16) (harg6 : arg6.IsWhole)
    (arg7 : Memref sig .tc .vmem S1x20x224x128 .bf16) (harg7 : arg7.IsWhole)
    (arg8 : Memref sig .tc .vmem S3x20x224x128 .bf16) (harg8 : arg8.IsWhole)
    (arg9 : Memref sig .tc .vmem S3x4x224x128 .bf16) (harg9 : arg9.IsWhole)
    (arg10 : Memref sig .tc .vmem S256x256 .bf16) (harg10 : arg10.IsWhole)
    (arg11 : Memref sig .tc .vmem S3x256x256 .bf16) (harg11 : arg11.IsWhole)
    (arg12 : Memref sig .tc .vmem S224x128 .i32) (harg12 : arg12.IsWhole) (hc0 : ¬isFirst i)
    (x0 : Vec F S896x128 .i32) (x1 : Vec F S256x256 .fp8e4m3) (x2 : Vec F S3x256x256 .fp8e4m3) (x3 x4 : Vec F S1x128 .f32)
    (Z : Vec F S3x20x224x128 .bf16) (Z4 : Vec F S3x4x224x128 .bf16) (Wa : Vec F S256x256 .bf16) (Wb : Vec F S3x256x256 .bf16)
    (G : Vec F S224x128 .i32) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare Z ∗ owns (c : Thread nD τ) arg9 fullShare Z4 ∗ owns (c : Thread nD τ) arg10 fullShare Wa
        ∗ owns (c : Thread nD τ) arg11 fullShare Wb ∗ owns (c : Thread nD τ) arg12 fullShare G
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (sBlock (i 0).val (zNext (i 0).val x0 Z) Wa (k0_pay8 x3) (k0_pay9 x4))
            ∗ owns (c : Thread nD τ) arg7 fullShare (nBlock (i 0).val (zNext (i 0).val x0 Z) (z4Next (i 0).val x0 Z4) Wa Wb G (k0_pay8 x3) (k0_pay9 x4))
            ∗ owns (c : Thread nD τ) arg8 fullShare (zNext (i 0).val x0 Z) ∗ owns (c : Thread nD τ) arg9 fullShare (z4Next (i 0).val x0 Z4)
            ∗ owns (c : Thread nD τ) arg10 fullShare Wa ∗ owns (c : Thread nD τ) arg11 fullShare Wb ∗ owns (c : Thread nD τ) arg12 fullShare G) -∗ K ()))
      ⊢ wp frame (wpE (defs₀ (F := F)) Variants.none c none) E
          (cc0_replay_conv i arg1 harg1 arg2 harg2 arg3 harg3 arg4 harg4 arg5 harg5 arg6 harg6 arg7 harg7 arg8 harg8 arg9 harg9 arg10 harg10 arg11 harg11 arg12 harg12) K := by
  simp only [cc0_replay_conv_eq_skeleton]; unfold cc0_replay_conv_skel
  simp only [k0_part35_eq_skeleton, k0_part2_eq_skeleton, k0_part3_eq_skeleton,
    k0_part4_eq_skeleton, k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton, k0_part21_eq_skeleton,
    k0_part22_eq_skeleton, k0_part23_eq_skeleton, k0_part24_eq_skeleton, k0_part25_eq_skeleton, k0_part26_eq_skeleton, k0_part27_eq_skeleton,
    k0_part28_eq_skeleton, k0_part29_eq_skeleton, k0_part30_eq_skeleton, k0_part31_eq_skeleton, k0_part32_eq_skeleton, k0_part33_eq_skeleton,
    k0_part34_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩,
    ⟨%fs0, %hs0, HS0⟩, ⟨%fs1, %hs1, HS1⟩, ⟨%fs2, %hs2, HS2⟩, ⟨%fs3, %hs3, HS3⟩, ⟨%fs4, %hs4, HS4⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | sl_exact hc0)
  sl_step
  have hZ : arg8.view.read (Elt F) (arg8.view.writes (Elt F) fs0 (body_later.sl.HS0_40 c i arg1 harg1 x0)) = zNext (i 0).val x0 Z := by
    refine (read_writes_windows arg8.view fs0 (cols3 x0) (i 0).val _ ?_).trans (by rw [hs0]; rfl)
    rw [boxKeys_20]
    repeat' apply List.Forall₂.cons
    all_goals first
      | exact List.Forall₂.nil
      | exact holds_window (cols3 x0) (i 0).val _ _ _ _ ClosedOff.eq _ _ (load_cols3 harg1 x0 _ _ _ _ _ _ _ rfl rfl rfl) rfl (by decide) (by decide) _ _
  have hZ4 : arg9.view.read (Elt F) (arg9.view.writes (Elt F) fs1 (body_later.sl.HS1_8 c i arg1 harg1 x0)) = z4Next (i 0).val x0 Z4 := by
    refine (read_writes_windows arg9.view fs1 (cols1 x0) (i 0).val _ ?_).trans (by rw [hs1]; rfl)
    rw [boxKeys_4]
    repeat' apply List.Forall₂.cons
    all_goals first
      | exact List.Forall₂.nil
      | exact holds_window (cols1 x0) (i 0).val _ _ _ _ ClosedOff.eq _ _ (load_cols1 harg1 x0 _ _ _ rfl) rfl (by decide) (by decide) _ _
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine read_writes_columns arg6.view _ _ _ ?_
    rw [reverse_range_20]
    repeat' apply List.Forall₂.cons
    all_goals first
      | exact List.Forall₂.nil
      | exact holds_s _ _ (by decide) _ _ _ hZ _ _ _ hs2 _ _ _ (harg4.read_unread _) _ _ _ (harg5.read_unread _) _ _ ClosedOff.eq ClosedOff.eq _ _ _ _ _ _
  isplitl [H6]
  · iexists _; isplitr; swap; · iexact H6
    ipureintro
    refine read_writes_columns arg7.view _ _ _ ?_
    rw [reverse_range_20]
    repeat' apply List.Forall₂.cons
    iterate 10
      exact holds_n_odd _ _ (by decide) _ _ _ hZ _ _ _ hs2 _ _ _ (harg4.read_unread _) _ _ _ (harg5.read_unread _) _ _ ClosedOff.eq ClosedOff.eq
          _ _ _ _ _ _ _ _ _ hZ4 _ _ _ hs3 _ _ _ hs4 _ _ (by decide) (by decide) _ _ ClosedOff.eq ClosedOff.eq _ _ _ _ (by decide)
      exact holds_n_even _ _ (by decide) _ _ _ hZ _ _ _ hs2 _ _ _ (harg4.read_unread _) _ _ _ (harg5.read_unread _) _ _ ClosedOff.eq ClosedOff.eq
          _ _ _ _ _ _ _ _ _ hZ4 _ _ _ hs3 _ _ _ hs4 _ _ (by decide) (by decide) _ _ ClosedOff.eq ClosedOff.eq _ _ _ _ (by decide)
    exact List.Forall₂.nil
  isplitl [HS0]
  · iexists _; isplitr; swap; · iexact HS0
    ipureintro
    exact hZ
  isplitl [HS1]
  · iexists _; isplitr; swap; · iexact HS1
    ipureintro
    exact hZ4
  isplitl [HS2]
  · iexists _; isplitr; swap; · iexact HS2
    ipureintro; exact hs2
  isplitl [HS3]
  · iexists _; isplitr; swap; · iexact HS3
    ipureintro; exact hs3
  iexists _; isplitr; swap; · iexact HS4
  ipureintro; exact hs4

end Cert.KernelIdeal.Conv

end
-- ==== Proof.Conv.Run.lean ====
/-
  The kernel's run: what the scratch arrays hold after each point, the pipeline's proof data stating it and the result blocks,
  the body at every point, and the run of the whole program with its frame.
-/
module

public import proofs.«01_k».proof.Proof.Conv.First
public import proofs.«01_k».proof.Proof.Conv.Later
public import Idealize.ShloMosaic.Lib.Claim

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## What the scratch arrays hold -/

/-- The grid's point of a number. -/
def pt (n : ℕ) : Fin cfg0.N := ⟨n % 22, lt_of_lt_of_eq (Nat.mod_lt _ (by decide)) N_0.symm⟩

theorem pt_val (t : Fin cfg0.N) : pt t.val = t :=
  Fin.ext (Nat.mod_eq_of_lt (lt_of_lt_of_eq t.isLt N_0))

/-- The words the body is handed at a point. -/
def words (c : Dev nD) (n : ℕ) : Vec F S896x128 .i32 := iblk m c 0 (pt n)

/-- The windows of the first three word tiles after a point. -/
def zAt (c : Dev nD) : ℕ → Vec F S3x20x224x128 .bf16
  | 0 => zNext 0 (words m c 0) k0_pay4
  | n + 1 => zNext (n + 1) (words m c (n + 1)) (zAt c n)

/-- The windows of the last word tile after a point. -/
def z4At (c : Dev nD) : ℕ → Vec F S3x4x224x128 .bf16
  | 0 => z4Next 0 (words m c 0) k0_pay5
  | n + 1 => z4Next (n + 1) (words m c (n + 1)) (z4At c n)

/-- The cast weights and the episode gate, kept from the first point on. -/
def waOf (c : Dev nD) : Vec F S256x256 .bf16 := k0_pay2 (iblk m c 1 (pt 0))
def wbOf (c : Dev nD) : Vec F S3x256x256 .bf16 := k0_pay3 (iblk m c 2 (pt 0))
def gOf (c : Dev nD) : Vec F S224x128 .i32 := k0_pay7 (gateOf (words m c 0))

/-- The two result blocks at a point. -/
def sAt (c : Dev nD) (t : Fin cfg0.N) : Vec F S1x20x224x128 .bf16 :=
  sBlock t.val (zAt m c t.val) (waOf m c) (k0_pay8 (iblk m c 3 t)) (k0_pay9 (iblk m c 4 t))
def nAt (c : Dev nD) (t : Fin cfg0.N) : Vec F S1x20x224x128 .bf16 :=
  nBlock t.val (zAt m c t.val) (z4At m c t.val) (waOf m c) (wbOf m c) (gOf m c) (k0_pay8 (iblk m c 3 t)) (k0_pay9 (iblk m c 4 t))

/-- The invariant before a point: nothing known of the scratch before the first, afterwards all of it. -/
def PhiS (c : Dev nD) : ℕ → sProp (MT nD τ sig Unit (Elt F) ℕ (UR sig nD τ) ℕ)
  | 0 => Pipeline.ΦA spec0 c
  | n + 1 => iprop(iprop(owns (c : Thread nD τ) scM0_0 fullShare (zAt m c n) ∗ owns (c : Thread nD τ) scM0_1 fullShare (z4At m c n)
          ∗ owns (c : Thread nD τ) scM0_2 fullShare (waOf m c) ∗ owns (c : Thread nD τ) scM0_3 fullShare (wbOf m c)
          ∗ owns (c : Thread nD τ) scM0_4 fullShare (gOf m c)) ∗ (∃ r, prngReg c r))

/-! ## The pipeline's proof data -/

/-- The proof data: each input's buffer holds its block, the outputs the result blocks, the invariant that of the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => sAt m c t
    | ⟨6, _⟩ => nAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = sAt m c t := by dsimp only [dats]
theorem after0_6 (c : Dev nD) (t : Fin cfg0.N) : (dats m 0 c).after 6 t = nAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

theorem zAt_zero (c : Dev nD) (t : Fin cfg0.N) (h : t.val = 0) : zAt m c t.val = zNext t.val (iblk m c 0 t) k0_pay4 := by
  have e := pt_val t
  rw [h] at e
  rw [h, ← e]; rfl

theorem z4At_zero (c : Dev nD) (t : Fin cfg0.N) (h : t.val = 0) : z4At m c t.val = z4Next t.val (iblk m c 0 t) k0_pay5 := by
  have e := pt_val t
  rw [h] at e
  rw [h, ← e]; rfl

theorem zAt_later (c : Dev nD) (t : Fin cfg0.N) (n : ℕ) (h : t.val = n + 1) : zAt m c t.val = zNext t.val (iblk m c 0 t) (zAt m c n) := by
  have e := pt_val t
  rw [h] at e
  rw [h, ← e]; rfl

theorem z4At_later (c : Dev nD) (t : Fin cfg0.N) (n : ℕ) (h : t.val = n + 1) : z4At m c t.val = z4Next t.val (iblk m c 0 t) (z4At m c n) := by
  have e := pt_val t
  rw [h] at e
  rw [h, ← e]; rfl

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6,
    show (dats m 0 c).Φ t.succ = PhiS m c (t.val + 1) from rfl, show (dats m 0 c).Φ t.castSucc = PhiS m c t.val from rfl]
  rw [show PhiS m c (t.val + 1) = iprop(iprop(owns (c : Thread nD τ) scM0_0 fullShare (zAt m c t.val) ∗ owns (c : Thread nD τ) scM0_1 fullShare (z4At m c t.val)
          ∗ owns (c : Thread nD τ) scM0_2 fullShare (waOf m c) ∗ owns (c : Thread nD τ) scM0_3 fullShare (wbOf m c)
          ∗ owns (c : Thread nD τ) scM0_4 fullShare (gOf m c)) ∗ (∃ r, prngReg c r)) from rfl]
  unfold sAt nAt
  by_cases h0 : t.val = 0
  · have e := pt_val t
    rw [h0] at e
    rw [zAt_zero m c t h0, z4At_zero m c t h0, show waOf m c = k0_pay2 (iblk m c 1 t) by rw [← e]; rfl,
      show wbOf m c = k0_pay3 (iblk m c 2 t) by rw [← e]; rfl, show gOf m c = k0_pay7 (gateOf (iblk m c 0 t)) by rw [← e]; rfl,
      show PhiS m c t.val = Pipeline.ΦA spec0 c by rw [h0]; rfl, PhiA0_eq]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
    have hb := fun K => body_first (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6))
      scM0_0 (Memref.isWhole_whole _) scM0_1 (Memref.isWhole_whole _) scM0_2 (Memref.isWhole_whole _) scM0_3 (Memref.isWhole_whole _) scM0_4 (Memref.isWhole_whole _)
      ((isFirst_iff t).mpr h0) (iblk m c 0 t) (iblk m c 1 t) (iblk m c 2 t) (iblk m c 3 t) (iblk m c 4 t) Set.univ K
    simp only [coords_val] at hb
    iapply (hb _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, HS0, HS1, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ : ∃ n, t.val = n + 1 := ⟨t.val - 1, by omega⟩
    rw [zAt_later m c t n hn, z4At_later m c t n hn, show PhiS m c t.val = PhiS m c (n + 1) by rw [hn]]
    rw [show PhiS m c (n + 1) = iprop(iprop(owns (c : Thread nD τ) scM0_0 fullShare (zAt m c n) ∗ owns (c : Thread nD τ) scM0_1 fullShare (z4At m c n)
          ∗ owns (c : Thread nD τ) scM0_2 fullShare (waOf m c) ∗ owns (c : Thread nD τ) scM0_3 fullShare (wbOf m c)
          ∗ owns (c : Thread nD τ) scM0_4 fullShare (gOf m c)) ∗ (∃ r, prngReg c r)) from rfl]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
    have hb := fun K => body_later (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6))
      scM0_0 (Memref.isWhole_whole _) scM0_1 (Memref.isWhole_whole _) scM0_2 (Memref.isWhole_whole _) scM0_3 (Memref.isWhole_whole _) scM0_4 (Memref.isWhole_whole _)
      (fun h => h0 ((isFirst_iff t).mp h)) (iblk m c 0 t) (iblk m c 1 t) (iblk m c 2 t) (iblk m c 3 t) (iblk m c 4 t)
      (zAt m c n) (z4At m c n) (waOf m c) (wbOf m c) (gOf m c) Set.univ K
    simp only [coords_val] at hb
    iapply (hb _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, HS0, HS1, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem phi_out (c : Dev nD) : (dats m 0 c).Φ (Fin.last cfg0.N) ⊢ Pipeline.ΦA spec0 c := by
  rw [show (dats m 0 c).Φ (Fin.last cfg0.N) = PhiS m c cfg0.N from rfl, show PhiS m c cfg0.N = PhiS m c (21 + 1) from congrArg (PhiS m c) N_0, PhiA0_eq]
  rw [show PhiS m c (21 + 1) = iprop(iprop(owns (c : Thread nD τ) scM0_0 fullShare (zAt m c 21) ∗ owns (c : Thread nD τ) scM0_1 fullShare (z4At m c 21)
          ∗ owns (c : Thread nD τ) scM0_2 fullShare (waOf m c) ∗ owns (c : Thread nD τ) scM0_3 fullShare (wbOf m c)
          ∗ owns (c : Thread nD τ) scM0_4 fullShare (gOf m c)) ∗ (∃ r, prngReg c r)) from rfl]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

set_option backward.isDefEq.respectTransparency.types false in
/-- Every run ends with the arrays as the proof data says and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => .rfl) (hout := phi_out m)
    (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Conv

end
-- ==== Proof.Conv.Arrays.lean ====
/-
  The two result arrays after the run, block by block: row block `oh` is what the body left at point `oh + 2`.
-/
module

public import proofs.«01_k».proof.Proof.Conv.Run
public import Idealize.ShloMosaic.Lib.Pipeline.ValueKit

@[expose] public section

set_option maxRecDepth 16384

noncomputable section

namespace Cert.KernelIdeal.Conv

open Idealize.ShloMosaic Idealize.ShloMosaic.TcCoe Cert.KernelIdeal.Gen

variable {F : FTy → Type} [FloatOps F]
variable (m : (ℓ : Loc nD τ sig) → Buf (Elt F) ℓ)

theorem flush5 : ∀ t : Fin cfg0.N, (cfg0.win 5).flush t = true → 2 ≤ t.val :=
  (by decide +kernel : ∀ t : Fin grid0.N, (cfg0.win 5).flush t = true → 2 ≤ t.val)
theorem flush6 : ∀ t : Fin cfg0.N, (cfg0.win 6).flush t = true → 2 ≤ t.val :=
  (by decide +kernel : ∀ t : Fin grid0.N, (cfg0.win 6).flush t = true → 2 ≤ t.val)
theorem index5 : ∀ t : Fin cfg0.N, win0_5.index t = ![t.val - 2, 0, 0, 0] :=
  (by decide +kernel : ∀ t : Fin grid0.N, win0_5.index t = ![t.val - 2, 0, 0, 0])
theorem index6 : ∀ t : Fin cfg0.N, win0_6.index t = ![t.val - 2, 0, 0, 0] :=
  (by decide +kernel : ∀ t : Fin grid0.N, win0_6.index t = ![t.val - 2, 0, 0, 0])
theorem index0 : ∀ t : Fin cfg0.N, win0_0.index t = ![min t.val 20, 0] :=
  (by decide +kernel : ∀ t : Fin grid0.N, win0_0.index t = ![min t.val 20, 0])

/-- An array of row blocks `f 2`, `f 3`, …. -/
def stacked (f : Fin cfg0.N → Vec F S1x20x224x128 .bf16) : S20x20x224x128.Idx → F .bf16 :=
  fun i => f (pt ((i 0).val + 2)) (ix4 0 (Fin.ofNat 20 (i 1).val) (Fin.ofNat 224 (i 2).val) (Fin.ofNat 128 (i 3).val))

theorem stacked_apply (f : Fin cfg0.N → Vec F S1x20x224x128 .bf16) (t : Fin cfg0.N) (h : 2 ≤ t.val) (n : ℕ) (hn : n + 2 = t.val)
    (y : S1x20x224x128.Idx) : f t y = f (pt (n + 2)) (ix4 0 (Fin.ofNat 20 (y 1).val) (Fin.ofNat 224 (y 2).val) (Fin.ofNat 128 (y 3).val)) := by
  rw [hn, pt_val]
  congr 1
  funext a
  match a with
  | ⟨0, _⟩ => exact Fin.ext (Nat.lt_one_iff.mp (y 0).isLt)
  | ⟨1, _⟩ => exact Fin.ext (Nat.mod_eq_of_lt (y 1).isLt).symm
  | ⟨2, _⟩ => exact Fin.ext (Nat.mod_eq_of_lt (y 2).isLt).symm
  | ⟨3, _⟩ => exact Fin.ext (Nat.mod_eq_of_lt (y 3).isLt).symm

theorem array_s (c : Dev nD) : (dats m 0 c).arrAt 5 cfg0.N = stacked (sAt m c) := by
  refine (dats m 0 c).arrAt_eq_of_covers 5 _ (by decide +kernel) fun t hf y => ?_
  have h2 := flush5 t hf
  blk_simp [stacked, index5]
  rw [after0_5]
  exact stacked_apply (sAt m c) t h2 (t.val - 2) (by omega) y

theorem array_n (c : Dev nD) : (dats m 0 c).arrAt 6 cfg0.N = stacked (nAt m c) := by
  refine (dats m 0 c).arrAt_eq_of_covers 6 _ (by decide +kernel) fun t hf y => ?_
  have h2 := flush6 t hf
  blk_simp [stacked, index6]
  rw [after0_6]
  exact stacked_apply (nAt m c) t h2 (t.val - 2) (by omega) y

/-- The words handed to the body at a point are the band's. -/
theorem words_apply (c : Dev nD) (n : ℕ) (hn : n < 22) (i : Fin 896) (l : Fin 128) :
    words m c n (ix2 i l) = (m ((c : Thread nD τ).loc main_arg0) : Vec F S18816x128 .i32) (ix2 (Fin.ofNat 18816 (896 * min n 20 + i.val)) l) := by
  unfold words
  blk_simp [iblk]
  rw [V_main_arg0]
  congr 1
  have hp : (pt n).val = n := Nat.mod_eq_of_lt hn
  funext a
  match a with
  | ⟨0, _⟩ =>
    refine Fin.ext ?_
    show ((win0_0.blk (pt n)).view.emb (ix2 i l) 0).val = (896 * min n 20 + i.val) % 18816
    blk_simp [index0]
    rw [hp, Nat.mod_eq_of_lt (by omega)]
    simp
    try omega
  | ⟨1, _⟩ =>
    refine Fin.ext ?_
    show ((win0_0.blk (pt n)).view.emb (ix2 i l) 1).val = l.val
    blk_simp [index0]

/-! ## The inputs whose block is the whole array -/

theorem index1 : ∀ t : Fin cfg0.N, win0_1.index t = ![0, 0] := (by decide +kernel : ∀ t : Fin grid0.N, win0_1.index t = ![0, 0])
theorem index2 : ∀ t : Fin cfg0.N, win0_2.index t = ![0, 0, 0] := (by decide +kernel : ∀ t : Fin grid0.N, win0_2.index t = ![0, 0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])

theorem iblk1 (c : Dev nD) (t : Fin cfg0.N) : (iblk m c 1 t : S256x256.Idx → F .fp8e4m3) = V m c main_v8 := by
  funext i
  blk_simp [iblk]
  refine congrArg (V m c main_v8) (funext fun a => Fin.ext ?_)
  match a with
  | ⟨0, _⟩ => show ((win0_1.blk t).view.emb i 0).val = (i 0).val; blk_simp [index1]
  | ⟨1, _⟩ => show ((win0_1.blk t).view.emb i 1).val = (i 1).val; blk_simp [index1]

theorem iblk2 (c : Dev nD) (t : Fin cfg0.N) : (iblk m c 2 t : S3x256x256.Idx → F .fp8e4m3) = V m c main_v54 := by
  funext i
  blk_simp [iblk]
  refine congrArg (V m c main_v54) (funext fun a => Fin.ext ?_)
  match a with
  | ⟨0, _⟩ => show ((win0_2.blk t).view.emb i 0).val = (i 0).val; blk_simp [index2]
  | ⟨1, _⟩ => show ((win0_2.blk t).view.emb i 1).val = (i 1).val; blk_simp [index2]
  | ⟨2, _⟩ => show ((win0_2.blk t).view.emb i 2).val = (i 2).val; blk_simp [index2]

theorem iblk3 (c : Dev nD) (t : Fin cfg0.N) : (iblk m c 3 t : S1x128.Idx → F .f32) = V m c main_v55 := by
  funext i
  blk_simp [iblk]
  refine congrArg (V m c main_v55) (funext fun a => Fin.ext ?_)
  match a with
  | ⟨0, _⟩ => show ((win0_3.blk t).view.emb i 0).val = (i 0).val; blk_simp [index3]
  | ⟨1, _⟩ => show ((win0_3.blk t).view.emb i 1).val = (i 1).val; blk_simp [index3]

theorem iblk4 (c : Dev nD) (t : Fin cfg0.N) : (iblk m c 4 t : S1x128.Idx → F .f32) = V m c main_v56 := by
  funext i
  blk_simp [iblk]
  refine congrArg (V m c main_v56) (funext fun a => Fin.ext ?_)
  match a with
  | ⟨0, _⟩ => show ((win0_4.blk t).view.emb i 0).val = (i 0).val; blk_simp [index4]
  | ⟨1, _⟩ => show ((win0_4.blk t).view.emb i 1).val = (i 1).val; blk_simp [index4]

end Cert.KernelIdeal.Conv

end
-- ==== Proof.Conv.Spec.lean ====
/-
  What both programs compute: the pixels that the words hold, and the convolution layer of a stack of frames.
-/
module

public import Idealize.ShloMosaic.PureOps.Ideal
public import Idealize.ShloMosaic.Lib.Pointwise

@[expose] public section

noncomputable section

namespace Cert.Conv

open Idealize.ShloMosaic

/-- Byte `b` of a word, as a pixel. -/
def byteOf (w : BitVec 32) (b : ℕ) : Ideal .bf16 := FloatOps.uitofp .bf16 (w.extractLsb' (8 * b) 8)

variable (X : (⟨2, ![18816, 128]⟩ : Shape).Idx → BitVec 32)

/-- Row `n`, lane `l` of the words. -/
def word (n l : ℕ) : BitVec 32 := X (ix2 (Fin.ofNat 18816 n) (Fin.ofNat 128 l))

theorem byteOf_word_congr {n n' l l' b b' : ℕ} (hn : n = n') (hl : l = l') (hb : b = b') :
    byteOf (word X n l) b = byteOf (word X n' l') b' := by
  subst hn hl hb; rfl

/-- Byte `b` of word `w` of the 512 that hold sample `j`'s band `B` of four pixel rows. -/
def px (B j w b : ℕ) : Ideal .bf16 := byteOf (word X (896 * B + 4 * j + w / 128) (w % 128)) b

/-- Sample `j`'s word that is zero where the episode goes on. -/
def flag (j : ℕ) : BitVec 32 := word X (4 * j + 3) 96

/-- The pixel of sample `j` at a row and column of frame `k` of the four at the state. -/
def hist (j row col k : ℕ) : Ideal .bf16 := px X (row / 4) j (16 * (col / 4) + 4 * (row % 4) + k) (col % 4)

/-- The pixel of the frame after them. -/
def newest (j row col : ℕ) : Ideal .bf16 := px X (row / 4) j (384 + 4 * (col / 4) + row % 4) (col % 4)

/-- The pixel of frame `k` of the four at the successor state: the last three of the state where the episode goes on, and the newest. -/
def succ (j row col k : ℕ) : Ideal .bf16 :=
  if k < 3 then (if flag X j = 0#32 then hist X j row col (k + 1) else 0) else newest X j row col

/-- The weight of a window's row `a`, column `b` and frame `k`. -/
def wt (W : (⟨4, ![8, 8, 4, 128]⟩ : Shape).Idx → Ideal .bf16) (a b k : ℕ) (d : Fin 128) : Ideal .bf16 :=
  W (ix4 (Fin.ofNat 8 a) (Fin.ofNat 8 b) (Fin.ofNat 4 k) d)

/-- The convolution with 8 by 8 windows at stride 4 of one sample's frames `pix`: output row `oh`, column `ow`, channel `d`. -/
def conv (pix : ℕ → ℕ → ℕ → Ideal .bf16) (W : (⟨4, ![8, 8, 4, 128]⟩ : Shape).Idx → Ideal .bf16) (oh ow : ℕ) (d : Fin 128) : Ideal .f32 :=
  ∑ a : Fin 8, ∑ b : Fin 8, ∑ k : Fin 4, pix (4 * oh + a.val) (4 * ow + b.val) k.val * wt W a.val b.val k.val d

/-- Clamped features: the convolution scaled and shifted by channel, negatives cut to zero. -/
def feature (W : (⟨4, ![8, 8, 4, 128]⟩ : Shape).Idx → Ideal .bf16) (pix : ℕ → ℕ → ℕ → EReal) (sc bi : (⟨1, ![128]⟩ : Shape).Idx → EReal) (oh ow : ℕ) (d : Fin 128) : EReal :=
  max (conv pix W oh ow d * sc (ix1 d) + bi (ix1 d)) 0

end Cert.Conv

end
-- ==== Proof.Conv.Blocks.lean ====
/-
  The kernel's block computation over the extended reals, at an index: the pixel rows as bytes of words, the products as sums,
  the scaled and clamped features.
-/
module

public import proofs.«01_k».proof.Proof.Conv.Spec
public import proofs.«01_k».proof.Proof.Conv.Tiles
public import Idealize.ShloMosaic.Lib.BitcastPair

@[expose] public section

noncomputable section

namespace Cert.KernelIdeal.Conv

open Idealize.ShloMosaic Cert.KernelIdeal.Gen Cert.Conv

/-- Thirty-two-bit words read at eight bits: result rows `4r` to `4r + 3` of a column are the four bytes of
    source row `r`, the lowest first. -/
theorem bitcast_32_8 {s t : Shape} (x : s.Idx → BitVec 32) (h : s.Bitcasts 32 t 8) (j : t.Idx) :
    bitcast t 8 x h j = (x (h.srcIdx j (t.row j / 4) (fun a ha => by
        have := h.pos_lt j 0 (by decide) a ha; omega))).extractLsb' (8 * (t.row j % 4)) 8 := by
  apply BitVec.eq_of_getLsbD_eq
  intro i hi
  rw [bitcast_getLsbD x h j i hi (by decide), BitVec.getLsbD_extractLsb']
  have ep : (t.row j * 8 + i) / 32 = t.row j / 4 := by omega
  have eq : (t.row j * 8 + i) % 32 = 8 * (t.row j % 4) + i := by omega
  rw [h.srcIdx_congr j ep _ (fun a ha => by have := h.pos_lt j 0 (by decide) a ha; omega), eq]
  simp [hi]

/-- A choice on "this word is zero". -/
theorem select_zero {α : Type} (v : BitVec 32) (a b : α) :
    Scalar.select (IntOp.cmpi CmpIPredicate.eq v 0#32) a b = if v = 0#32 then a else b := by
  unfold Scalar.select IntOp.cmpi
  by_cases h : v = 0#32
  · simp [h]
  · have hb : (v == 0#32) = false := by simpa using h
    simp [hb, h]

/-- The product of two slabs beside each other with a weight matrix: 256 terms, the first 128 of the upper slab. -/
theorem pay73_apply (top bot : Vec Ideal S1x1x224x128 .bf16) (Wa : Vec Ideal S256x256 .bf16) (j : Fin 224) (d : Fin 256) :
    k0_pay73 top bot Wa (ix2 j d) = ∑ k : Fin 256, (if h : k.val < 128 then top (ix4 0 0 j ⟨k.val, h⟩) else bot (ix4 0 0 j ⟨k.val - 128, by omega⟩)) * Wa (ix2 k d) := by
  pointwise [k0_pay73]

theorem pay85_apply (top bot : Vec Ideal S1x1x224x128 .bf16) (Wa : Vec Ideal S256x256 .bf16) (j : Fin 224) (d : Fin 256) :
    k0_pay85 top bot Wa (ix2 j d) = ∑ k : Fin 256, (if h : k.val < 128 then top (ix4 0 0 j ⟨k.val, h⟩) else bot (ix4 0 0 j ⟨k.val - 128, by omega⟩)) * Wa (ix2 k d) := by
  pointwise [k0_pay85]

theorem pay72_apply (top bot : Vec Ideal S1x1x224x128 .bf16) (Wb : Vec Ideal S1x256x256 .bf16) (j : Fin 224) (d : Fin 256) :
    k0_pay72 top bot Wb (ix2 j d) = ∑ k : Fin 256, (if h : k.val < 128 then top (ix4 0 0 j ⟨k.val, h⟩) else bot (ix4 0 0 j ⟨k.val - 128, by omega⟩)) * Wb (ix3 0 k d) := by
  pointwise [k0_pay72]

theorem pay86_apply (sc bi : FVec Ideal S1x128 .f32) (top bot : Vec Ideal S1x1x224x128 .bf16) (Wa : Vec Ideal S256x256 .bf16) (j : Fin 224) (d : Fin 128) :
    k0_pay86 sc bi top bot Wa (ix4 0 0 j d) = max (k0_pay85 top bot Wa (ix2 j ⟨d.val, by omega⟩) * sc (ix2 0 d) + bi (ix2 0 d)) 0 := by
  pointwise [k0_pay86]

theorem pay76_apply (sc bi : FVec Ideal S1x128 .f32) (L A : FVec Ideal S224x256 .f32) (G : Vec Ideal S224x128 .i32) (j : Fin 224) (d : Fin 128) :
    k0_pay76 sc bi L A G (ix4 0 0 j d) = max (((if G (ix2 j d) = 0#32 then 0 else A (ix2 j ⟨128 + d.val, by omega⟩)) + L (ix2 j ⟨d.val, by omega⟩)) * sc (ix2 0 d) + bi (ix2 0 d)) 0 := by
  rw [← select_zero]
  pointwise [k0_pay76]

theorem pay81_apply (sc bi : FVec Ideal S1x128 .f32) (L A : FVec Ideal S224x256 .f32) (G : Vec Ideal S224x128 .i32) (j : Fin 224) (d : Fin 128) :
    k0_pay81 sc bi L A G (ix4 0 0 j d) = max (((if G (ix2 j d) = 0#32 then 0 else A (ix2 j ⟨128 + d.val, by omega⟩)) + L (ix2 j ⟨128 + d.val, by omega⟩)) * sc (ix2 0 d) + bi (ix2 0 d)) 0 := by
  rw [← select_zero]
  pointwise [k0_pay81]

theorem pay6_apply (v : Vec Ideal S224x128 .i32) (j : Fin 224) (d : Fin 128) :
    k0_pay6 (F := Ideal) v (ix2 j d) = if v (ix2 j 96) = 0#32 then 4294967295#32 else 0#32 := by
  rw [← select_zero]
  pointwise [k0_pay6]

theorem pay7_apply (v : Vec Ideal S224x128 .i32) (i : S224x128.Idx) : k0_pay7 v i = v i := by
  pointwise [k0_pay7]
theorem pay8_apply (v : Vec Ideal S1x128 .f32) (i : S1x128.Idx) : k0_pay8 (F := Ideal) v i = v i := by
  pointwise [k0_pay8]
theorem pay9_apply (v : Vec Ideal S1x128 .f32) (i : S1x128.Idx) : k0_pay9 (F := Ideal) v i = v i := by
  pointwise [k0_pay9]
theorem pay2_apply (v : Vec Ideal S256x256 .fp8e4m3) (i : S256x256.Idx) : k0_pay2 (F := Ideal) v i = v i := by
  pointwise [k0_pay2]
theorem pay3_apply (v : Vec Ideal S3x256x256 .fp8e4m3) (i : S3x256x256.Idx) : k0_pay3 (F := Ideal) v i = v i := by
  pointwise [k0_pay3]

/-- A tile's lane `r / 4`, byte `r % 4`, of row `l`. -/
theorem transposed_bytes (v : Vec Ideal S112x128 .i32) (r : Fin 512) (l : Fin 112) :
    bitcast S512x112 8 (transpose S128x112 [1, 0] (v : IVec S112x128 32) transposes_S112x128_p1_0_S128x112) bitcasts_S128x112_w32_S512x112_w8 (ix2 r l)
      = (v (ix2 l ⟨r.val / 4, by omega⟩) : BitVec 32).extractLsb' (8 * (r.val % 4)) 8 := by
  rw [bitcast_32_8]
  have e0 : bitcasts_S128x112_w32_S512x112_w8.srcIdx (ix2 r l) ((S512x112).row (ix2 r l) / 4) (fun a ha => by
        have := bitcasts_S128x112_w32_S512x112_w8.pos_lt (ix2 r l) 0 (by decide) a ha; omega) = ix2 ⟨r.val / 4, by omega⟩ l := by
    funext a
    match a with
    | ⟨0, _⟩ => rfl
    | ⟨1, _⟩ => rfl
  rw [e0]
  pointwise []

theorem pay35_apply (v : Vec Ideal S112x128 .i32) (r : Fin 512) (l : Fin 112) :
    k0_pay35 (F := Ideal) v (ix2 r l) = byteOf (v (ix2 l ⟨r.val / 4, by omega⟩)) (r.val % 4) := by
  unfold byteOf
  rw [← transposed_bytes]
  pointwise [k0_pay35]

theorem pay10_apply (v : ℕ → Vec Ideal S112x128 .i32) (r : Fin 1536) (l : Fin 112) :
    k0_pay10 (F := Ideal) (v 0) (v 1) (v 2) (ix2 r l) = k0_pay35 (v (r.val / 512)) (ix2 ⟨r.val % 512, by omega⟩ l) := by
  have h : k0_pay10 (F := Ideal) (v 0) (v 1) (v 2) (ix2 r l) = if h : r.val < 512 then k0_pay35 (v 0) (ix2 ⟨r.val, h⟩ l)
      else if h : r.val - 512 < 512 then k0_pay35 (v 1) (ix2 ⟨r.val - 512, h⟩ l) else k0_pay35 (v 2) (ix2 ⟨r.val - 512 - 512, by omega⟩ l) := by
    pointwise [k0_pay10, k0_pay35]
  rw [h]
  split
  · rename_i h1
    have e1 : r.val / 512 = 0 := by omega
    have e2 : r.val % 512 = r.val := by omega
    simp only [e1, e2]
  · split
    · have e1 : r.val / 512 = 1 := by omega
      have e2 : r.val % 512 = r.val - 512 := by omega
      simp only [e1, e2]
    · have e1 : r.val / 512 = 2 := by omega
      have e2 : r.val % 512 = r.val - 512 - 512 := by omega
      simp only [e1, e2]

/-- A band's words are rows `896 B` to `896 B + 895` of all of them. -/
def IsBand (X : (⟨2, ![18816, 128]⟩ : Shape).Idx → BitVec 32) (B : ℕ) (x0 : Vec Ideal S896x128 .i32) : Prop :=
  ∀ (i : Fin 896) (l : Fin 128), (x0 (ix2 i l) : BitVec 32) = word X (896 * B + i.val) l.val

variable {X : (⟨2, ![18816, 128]⟩ : Shape).Idx → BitVec 32} {B : ℕ} {x0 : Vec Ideal S896x128 .i32}

theorem rows_apply (h : IsBand X B x0) (o : ℕ) (l : Fin 112) (w : Fin 128) (ho : o + 4 * l.val < 896) :
    (rows x0 o (ix2 l w) : BitVec 32) = word X (896 * B + (o + 4 * l.val)) w.val := by
  have e : (o + 4 * l.val) % 896 = o + 4 * l.val := Nat.mod_eq_of_lt ho
  have := h ⟨(o + 4 * l.val) % 896, Nat.mod_lt _ (by decide)⟩ w
  simp only [e] at this
  exact (show rows x0 o (ix2 l w) = x0 (ix2 ⟨(o + 4 * l.val) % 896, Nat.mod_lt _ (by decide)⟩ w) from rfl).trans (by simpa only [e] using this)

/-- The windows of the first three word tiles hold the pixels of the history. -/
theorem windows3_apply (h : IsBand X B x0) (s : Fin 3) (ow : Fin 20) (j : Fin 224) (r : Fin 128) :
    windows 1536 64 (cols3 x0) (ix4 s ow j r) = px X B j.val (16 * ow.val + r.val / 4) (r.val % 4) := by
  have e1 : windows (N := 20) 1536 64 (cols3 x0) (ix4 s ow j r)
      = cols3 x0 (112 * (j.val / 112)) (ix2 (Fin.ofNat 1536 (64 * ow.val + r.val)) (Fin.ofNat 112 j.val)) := rfl
  have e2 := pay10_apply (fun n => rows x0 (4 * (112 * (j.val / 112)) + n)) (Fin.ofNat 1536 (64 * ow.val + r.val)) (Fin.ofNat 112 j.val)
  have hr : (Fin.ofNat 1536 (64 * ow.val + r.val)).val = 64 * ow.val + r.val := Nat.mod_eq_of_lt (by omega)
  have hl : (Fin.ofNat 112 j.val).val = j.val % 112 := rfl
  rw [e1, show cols3 x0 (112 * (j.val / 112)) = _ from rfl, cols3]
  refine e2.trans ?_
  rw [pay35_apply, rows_apply h _ _ _ (by rw [hr, hl]; omega)]
  simp only [hr, hl, px]
  exact byteOf_word_congr X (by omega) (by omega) (by omega)

/-- The windows of the last word tile hold the pixels of the newest frame. -/
theorem windows1_apply (h : IsBand X B x0) (s : Fin 3) (q : Fin 4) (j : Fin 224) (r : Fin 128) :
    windows 512 96 (cols1 x0) (ix4 s q j r) = px X B j.val (384 + 24 * q.val + r.val / 4) (r.val % 4) := by
  have e1 : windows (N := 4) 512 96 (cols1 x0) (ix4 s q j r)
      = k0_pay35 (rows x0 (4 * (112 * (j.val / 112)) + 3)) (ix2 (Fin.ofNat 512 (96 * q.val + r.val)) (Fin.ofNat 112 j.val)) := rfl
  have hr : (Fin.ofNat 512 (96 * q.val + r.val)).val = 96 * q.val + r.val := Nat.mod_eq_of_lt (by omega)
  have hl : (Fin.ofNat 112 j.val).val = j.val % 112 := rfl
  rw [e1, pay35_apply, rows_apply h _ _ _ (by rw [hl]; omega)]
  simp only [hr, hl, px]
  exact byteOf_word_congr X (by omega) (by omega) (by omega)

/-- The gate is zero where the episode ended. -/
theorem gate_apply (h : IsBand X 0 x0) (j : Fin 224) (d : Fin 128) :
    gateOf x0 (ix2 j d) = if flag X j.val = 0#32 then 4294967295#32 else 0#32 := by
  have e : (3 + 4 * j.val) % 896 = 3 + 4 * j.val := Nat.mod_eq_of_lt (by omega)
  have e2 := h ⟨(3 + 4 * j.val) % 896, Nat.mod_lt _ (by decide)⟩ 96
  rw [gateOf, pay6_apply]
  refine if_congr ?_ rfl rfl
  rw [show flag X j.val = word X (896 * 0 + (3 + 4 * j.val) % 896) 96 from by rw [e, flag]; congr 1; omega]
  rw [← show _ = word X (896 * 0 + (3 + 4 * j.val) % 896) 96 from e2]
  rfl

end Cert.KernelIdeal.Conv

end
-- ==== Proof.Conv.Layouts.lean ====
/-
  The weight matrices that the host lays out for the kernel as functions of the weights, and their entries.
-/
module

public import proofs.«01_k».proof.Proof.Conv.Blocks

@[expose] public section

set_option maxRecDepth 16384

noncomputable section

namespace Cert.KernelIdeal.Conv

open Idealize.ShloMosaic Idealize.ShloMosaic.TcCoe Cert.KernelIdeal.Gen Cert.Conv

/-! ## The layouts as functions of the weights -/

theorem zero8 : Ideal.ofBits .fp8e4m3 0#8 = 0 := by
  simp [Ideal.ofBits, Ideal.e4m3fn]

/-- The weights with each spatial axis split into a step of four and a place in it: [row step, column step, row, frame, column, channel]. -/
def w6 (x : FVec Ideal S8x8x4x128 .fp8e4m3) : FVec Ideal S2x2x4x4x4x128 .fp8e4m3 :=
  transpose S2x2x4x4x4x128 [0, 2, 1, 4, 3, 5] (shapeCast S2x4x2x4x4x128 x shapeCasts_S8x8x4x128_S2x4x2x4x4x128) transposes_S2x4x2x4x4x128_S2x2x4x4x4x128_0_2_1_4_3_5

/-- Zero bytes as weights. -/
def zeros (t : Shape) (h : S_.BroadcastsInDim t ![]) : FVec Ideal t .fp8e4m3 :=
  bitcastToFloat .fp8e4m3 (broadcastInDim t ![] h (constantI S_ 8 0#8))

/-- The weights shifted by one frame. -/
def succ6 (x : FVec Ideal S8x8x4x128 .fp8e4m3) : FVec Ideal S2x2x4x4x4x128 .fp8e4m3 :=
  concatenate S2x2x4x4x4x128 3
    [⟨S2x2x4x1x4x128, zeros _ bcast_S_S2x2x4x1x4x128⟩,
     ⟨S2x2x4x3x4x128, extractStridedSlice S2x2x4x3x4x128 ![0, 0, 0, 0, 0, 0] (w6 x) slices_S2x2x4x4x4x128_S2x2x4x3x4x128_0_0_0_0_0_0⟩]
    concatenates_S2x2x4x1x4x128_S2x2x4x3x4x128_S2x2x4x4x4x128_d3

/-- The first weight matrix: the weights beside the shifted weights. -/
def waHost (x : FVec Ideal S8x8x4x128 .fp8e4m3) : FVec Ideal S256x256 .fp8e4m3 :=
  shapeCast S256x256 (concatenate S2x2x4x4x4x256 5 [⟨S2x2x4x4x4x128, w6 x⟩, ⟨S2x2x4x4x4x128, succ6 x⟩]
    concatenates_S2x2x4x4x4x128_S2x2x4x4x4x128_S2x2x4x4x4x256_d5) shapeCasts_S2x2x4x4x4x256_S256x256

/-- The last frame's weights. -/
def w3 (x : FVec Ideal S8x8x4x128 .fp8e4m3) : FVec Ideal S2x2x16x128 .fp8e4m3 :=
  shapeCast S2x2x16x128 (shapeCast S2x2x4x4x128 (extractStridedSlice S2x2x4x1x4x128 ![0, 0, 0, 3, 0, 0] (w6 x)
    slices_S2x2x4x4x4x128_S2x2x4x1x4x128_0_0_0_3_0_0) shapeCasts_S2x2x4x1x4x128_S2x2x4x4x128) shapeCasts_S2x2x4x4x128_S2x2x16x128

/-- The last frame's weights between zeros, as a matrix. -/
def pad (A B : Shape) (hA : S_.BroadcastsInDim A ![]) (hB : S_.BroadcastsInDim B ![]) (h : Shape.Concatenates [A, S2x2x16x128, B] S2x8x16x128 1)
    (x : FVec Ideal S8x8x4x128 .fp8e4m3) : FVec Ideal S256x128 .fp8e4m3 :=
  shapeCast S256x128 (concatenate S2x8x16x128 1 [⟨A, zeros A hA⟩, ⟨S2x2x16x128, w3 x⟩, ⟨B, zeros B hB⟩] h) shapeCasts_S2x8x16x128_S256x128

/-- The matrices for the six places an output column can have in a slab. -/
def pad0 := pad S2x0x16x128 S2x6x16x128 bcast_S_S2x0x16x128 bcast_S_S2x6x16x128 concatenates_S2x0x16x128_S2x2x16x128_S2x6x16x128_S2x8x16x128_d1
def pad1 := pad S2x1x16x128 S2x5x16x128 bcast_S_S2x1x16x128 bcast_S_S2x5x16x128 concatenates_S2x1x16x128_S2x2x16x128_S2x5x16x128_S2x8x16x128_d1
def pad2 := pad S2x2x16x128 S2x4x16x128 bcast_S_S2x2x16x128 bcast_S_S2x4x16x128 concatenates_S2x2x16x128_S2x2x16x128_S2x4x16x128_S2x8x16x128_d1
def pad3 := pad S2x3x16x128 S2x3x16x128 bcast_S_S2x3x16x128 bcast_S_S2x3x16x128 concatenates_S2x3x16x128_S2x2x16x128_S2x3x16x128_S2x8x16x128_d1
def pad4 := pad S2x4x16x128 S2x2x16x128 bcast_S_S2x4x16x128 bcast_S_S2x2x16x128 concatenates_S2x4x16x128_S2x2x16x128_S2x2x16x128_S2x8x16x128_d1
def pad5 := pad S2x5x16x128 S2x1x16x128 bcast_S_S2x5x16x128 bcast_S_S2x1x16x128 concatenates_S2x5x16x128_S2x2x16x128_S2x1x16x128_S2x8x16x128_d1

/-- Two of them beside each other. -/
def pair (a b : FVec Ideal S256x128 .fp8e4m3) : FVec Ideal S256x256 .fp8e4m3 :=
  concatenate S256x256 1 [⟨S256x128, a⟩, ⟨S256x128, b⟩] concatenates_S256x128_S256x128_S256x256_d1

/-- Three matrices stacked. -/
def stack (a b c : FVec Ideal S1x256x256 .fp8e4m3) : FVec Ideal S3x256x256 .fp8e4m3 :=
  concatenate S3x256x256 0 [⟨S1x256x256, a⟩, ⟨S1x256x256, b⟩, ⟨S1x256x256, c⟩] concatenates_S1x256x256_S1x256x256_S1x256x256_S3x256x256_d0

/-- A matrix with a leading axis. -/
def lead (a : FVec Ideal S256x256 .fp8e4m3) : FVec Ideal S1x256x256 .fp8e4m3 :=
  broadcastInDim S1x256x256 ![1, 2] bcast_S256x256_S1x256x256_1_2 a

/-- The second weight array. -/
def wbHost (x : FVec Ideal S8x8x4x128 .fp8e4m3) : FVec Ideal S3x256x256 .fp8e4m3 :=
  stack (lead (pair (pad0 x) (pad1 x))) (lead (pair (pad2 x) (pad3 x))) (lead (pair (pad4 x) (pad5 x)))

/-! ## Their entries -/

theorem wt_eq (x : FVec Ideal S8x8x4x128 .fp8e4m3) {a b k : ℕ} (ha : a < 8) (hb : b < 8) (hk : k < 4) (d : Fin 128) :
    x (ix4 ⟨a, ha⟩ ⟨b, hb⟩ ⟨k, hk⟩ d) = wt x a b k d := by
  unfold wt
  rw [show Fin.ofNat 8 a = ⟨a, ha⟩ from Fin.ext (Nat.mod_eq_of_lt ha), show Fin.ofNat 8 b = ⟨b, hb⟩ from Fin.ext (Nat.mod_eq_of_lt hb),
    show Fin.ofNat 4 k = ⟨k, hk⟩ from Fin.ext (Nat.mod_eq_of_lt hk)]

theorem waHost_apply (x : FVec Ideal S8x8x4x128 .fp8e4m3) (K : Fin 256) (d : Fin 256) :
    waHost x (ix2 K d) =
      (if h : d.val < 128 then x (ix4 ⟨K.val / 128 * 4 + K.val / 16 % 4, by omega⟩ ⟨K.val / 64 % 2 * 4 + K.val % 4, by omega⟩ ⟨K.val / 4 % 4, by omega⟩ ⟨d.val, h⟩)
      else
        if h : K.val / 4 % 4 < 1 then Ideal.ofBits .fp8e4m3 0#8
        else x (ix4 ⟨K.val / 128 * 4 + K.val / 16 % 4, by omega⟩ ⟨K.val / 64 % 2 * 4 + K.val % 4, by omega⟩ ⟨K.val / 4 % 4 - 1, by omega⟩ ⟨d.val - 128, by omega⟩)) := by
  pointwise [waHost, w6, succ6, zeros]

/-- Entry `K` of a column of the first matrix's left half, and of its right half one frame on. -/
theorem waHost_left (x : FVec Ideal S8x8x4x128 .fp8e4m3) (K : Fin 256) (d : Fin 128) (hd : d.val < 256) :
    waHost x (ix2 K ⟨d.val, hd⟩) = wt x (K.val / 128 * 4 + K.val / 16 % 4) (K.val / 64 % 2 * 4 + K.val % 4) (K.val / 4 % 4) d := by
  rw [waHost_apply, dif_pos (show (⟨d.val, hd⟩ : Fin 256).val < 128 from d.isLt)]
  exact wt_eq x _ _ _ d

theorem waHost_right (x : FVec Ideal S8x8x4x128 .fp8e4m3) (K : Fin 256) (d : Fin 128) (hd : 128 + d.val < 256) :
    waHost x (ix2 K ⟨128 + d.val, hd⟩)
      = if K.val / 4 % 4 = 0 then 0 else wt x (K.val / 128 * 4 + K.val / 16 % 4) (K.val / 64 % 2 * 4 + K.val % 4) (K.val / 4 % 4 - 1) d := by
  rw [waHost_apply, dif_neg (show ¬ (⟨128 + d.val, hd⟩ : Fin 256).val < 128 from by show ¬ 128 + d.val < 128; omega)]
  by_cases h : K.val / 4 % 4 = 0
  · rw [dif_pos (by omega), if_pos h, zero8]
  · rw [dif_neg (by omega), if_neg h]
    have e : (⟨128 + d.val - 128, by omega⟩ : Fin 128) = d := Fin.ext (Nat.add_sub_cancel_left ..)
    exact (congrArg (fun u => x (ix4 _ _ _ u)) e).trans (wt_eq x (by omega) (by omega) (by omega) d)

/-- Entry `K` of the matrix for place `c`. -/
def padVal (x : FVec Ideal S8x8x4x128 .fp8e4m3) (c K : ℕ) (d : Fin 128) : Ideal .bf16 :=
  if c ≤ K / 16 % 8 ∧ K / 16 % 8 < c + 2 then wt x (K / 128 * 4 + K % 16 / 4) ((K / 16 % 8 - c) * 4 + K % 16 % 4) 3 d else 0

theorem padVal_eq (x : FVec Ideal S8x8x4x128 .fp8e4m3) (c : ℕ) (K : Fin 256) (d : Fin 128) :
    (if h : K.val / 16 % 8 < c then Ideal.ofBits .fp8e4m3 0#8
      else if h' : K.val / 16 % 8 - c < 2 then
        x (ix4 ⟨K.val / 128 * 4 + K.val % 16 / 4, by omega⟩ ⟨(K.val / 16 % 8 - c) * 4 + K.val % 16 % 4, by omega⟩ 3 d)
      else Ideal.ofBits .fp8e4m3 0#8) = padVal x c K.val d := by
  unfold padVal
  by_cases h : K.val / 16 % 8 < c
  · rw [dif_pos h, if_neg (by omega), zero8]
  · rw [dif_neg h]
    by_cases h' : K.val / 16 % 8 - c < 2
    · rw [dif_pos h', if_pos (by omega), show (3 : Fin 4) = ⟨3, by decide⟩ from rfl]
      exact wt_eq x _ _ _ d
    · rw [dif_neg h', if_neg (by omega), zero8]

theorem pad0_apply (x : FVec Ideal S8x8x4x128 .fp8e4m3) (K : Fin 256) (d : Fin 128) : pad0 x (ix2 K d) = padVal x 0 K.val d := by
  rw [← padVal_eq]; pointwise [pad0, pad, zeros, w3, w6]
theorem pad1_apply (x : FVec Ideal S8x8x4x128 .fp8e4m3) (K : Fin 256) (d : Fin 128) : pad1 x (ix2 K d) = padVal x 1 K.val d := by
  rw [← padVal_eq]; pointwise [pad1, pad, zeros, w3, w6]
theorem pad2_apply (x : FVec Ideal S8x8x4x128 .fp8e4m3) (K : Fin 256) (d : Fin 128) : pad2 x (ix2 K d) = padVal x 2 K.val d := by
  rw [← padVal_eq]; pointwise [pad2, pad, zeros, w3, w6]
theorem pad3_apply (x : FVec Ideal S8x8x4x128 .fp8e4m3) (K : Fin 256) (d : Fin 128) : pad3 x (ix2 K d) = padVal x 3 K.val d := by
  rw [← padVal_eq]; pointwise [pad3, pad, zeros, w3, w6]
theorem pad4_apply (x : FVec Ideal S8x8x4x128 .fp8e4m3) (K : Fin 256) (d : Fin 128) : pad4 x (ix2 K d) = padVal x 4 K.val d := by
  rw [← padVal_eq]; pointwise [pad4, pad, zeros, w3, w6]
theorem pad5_apply (x : FVec Ideal S8x8x4x128 .fp8e4m3) (K : Fin 256) (d : Fin 128) : pad5 x (ix2 K d) = padVal x 5 K.val d := by
  rw [← padVal_eq]; pointwise [pad5, pad, zeros, w3, w6]

theorem wbHost_apply (x : FVec Ideal S8x8x4x128 .fp8e4m3) (v : Fin 3) (K : Fin 256) (d : Fin 256) :
    wbHost x (ix3 v K d) = padVal x (2 * v.val + d.val / 128) K.val ⟨d.val % 128, by omega⟩ := by
  have key : wbHost x (ix3 v K d) =
    (if h : v.val < 1 then if h : d.val < 128 then pad0 x (ix2 K ⟨d.val, h⟩) else pad1 x (ix2 K ⟨d.val - 128, by omega⟩)
    else
      if h : v.val - 1 < 1 then if h : d.val < 128 then pad2 x (ix2 K ⟨d.val, h⟩) else pad3 x (ix2 K ⟨d.val - 128, by omega⟩)
      else if h : d.val < 128 then pad4 x (ix2 K ⟨d.val, h⟩) else pad5 x (ix2 K ⟨d.val - 128, by omega⟩)) := by
    pointwise [wbHost, stack, lead, pair]
  rw [key]
  simp only [pad0_apply, pad1_apply, pad2_apply, pad3_apply, pad4_apply, pad5_apply]
  by_cases hd : d.val < 128
  · have e1 : d.val / 128 = 0 := by omega
    have e2 : d.val % 128 = d.val := by omega
    simp only [dif_pos hd, e1, e2]
    match v with
    | ⟨0, _⟩ => rfl
    | ⟨1, _⟩ => rfl
    | ⟨2, _⟩ => rfl
  · have e1 : d.val / 128 = 1 := by omega
    have e2 : d.val % 128 = d.val - 128 := by omega
    simp only [dif_neg hd, e1, e2]
    match v with
    | ⟨0, _⟩ => rfl
    | ⟨1, _⟩ => rfl
    | ⟨2, _⟩ => rfl

end Cert.KernelIdeal.Conv

end
-- ==== Proof.Conv.Weights.lean ====
/-
  The weight matrices, the scale row and the bias row that the kernel's region finds in its arrays.
-/
module

public import proofs.«01_k».proof.Proof.Conv.Run
public import proofs.«01_k».proof.Proof.Conv.Layouts
public import Idealize.ShloMosaic.Lib.StableHlo.RunRead

@[expose] public section

set_option maxRecDepth 16384

noncomputable section

namespace Cert.KernelIdeal.Conv

open Idealize.ShloMosaic Idealize.ShloMosaic.TcCoe Cert.KernelIdeal.Gen Cert.Conv

variable (m : (ℓ : Loc nD τ sig) → Buf (Elt Ideal) ℓ)

/-- The weights as launched. -/
abbrev codes (c : Dev nD) : FVec Ideal S8x8x4x128 .fp8e4m3 := m ((c : Thread nD τ).loc main_arg1)

theorem scale_eq (c : Dev nD) : (V m c main_v55 : FVec Ideal S1x128 .f32) = shapeCast S1x128 (m ((c : Thread nD τ).loc main_arg2) : FVec Ideal S128 .f32) shapeCasts_S128_S1x128 := by
  show StableHlo.after hostOps0 (fun b => m (c, b)) (Proc.devRef .tc main_v55) = _
  after_reads_simp
  rfl

theorem bias_eq (c : Dev nD) : (V m c main_v56 : FVec Ideal S1x128 .f32) = shapeCast S1x128 (m ((c : Thread nD τ).loc main_arg3) : FVec Ideal S128 .f32) shapeCasts_S128_S1x128 := by
  show StableHlo.after hostOps0 (fun b => m (c, b)) (Proc.devRef .tc main_v56) = _
  after_reads_simp
  rfl

theorem wa_eq (c : Dev nD) : (V m c main_v8 : FVec Ideal S256x256 .fp8e4m3) = waHost (codes m c) := by
  have h1 : (StableHlo.upto hostOps0 (fun b => m (c, b)) 8 (Proc.devRef .tc main_v1) : FVec Ideal S2x2x4x4x4x128 .fp8e4m3) = w6 (codes m c) := by
    after_reads_simp
    rfl
  have h4 : (StableHlo.upto hostOps0 (fun b => m (c, b)) 7 (Proc.devRef .tc main_v4) : FVec Ideal S2x2x4x1x4x128 .fp8e4m3) = zeros _ bcast_S_S2x2x4x1x4x128 := by
    after_reads_simp
    rfl
  have h5 : (StableHlo.upto hostOps0 (fun b => m (c, b)) 7 (Proc.devRef .tc main_v5) : FVec Ideal S2x2x4x3x4x128 .fp8e4m3)
      = extractStridedSlice S2x2x4x3x4x128 ![0, 0, 0, 0, 0, 0] (w6 (codes m c)) slices_S2x2x4x4x4x128_S2x2x4x3x4x128_0_0_0_0_0_0 := by
    after_reads_simp
    rfl
  have h6 : (StableHlo.upto hostOps0 (fun b => m (c, b)) 8 (Proc.devRef .tc main_v6) : FVec Ideal S2x2x4x4x4x128 .fp8e4m3) = succ6 (codes m c) := by
    after_reads_simp
    exact congrArg₂ (fun a b => concatenate S2x2x4x4x4x128 3 [⟨S2x2x4x1x4x128, a⟩, ⟨S2x2x4x3x4x128, b⟩] concatenates_S2x2x4x1x4x128_S2x2x4x3x4x128_S2x2x4x4x4x128_d3) h4 h5
  show StableHlo.after hostOps0 (fun b => m (c, b)) (Proc.devRef .tc main_v8) = _
  after_reads_simp
  exact congrArg₂ (fun a b => shapeCast S256x256 (concatenate S2x2x4x4x4x256 5 [⟨S2x2x4x4x4x128, a⟩, ⟨S2x2x4x4x4x128, b⟩]
    concatenates_S2x2x4x4x4x128_S2x2x4x4x4x128_S2x2x4x4x4x256_d5) shapeCasts_S2x2x4x4x4x256_S256x256) h1 h6

/-- A matrix put together from zeros, the last frame's weights and zeros. -/
theorem pad_eq (A B : Shape) (hA : S_.BroadcastsInDim A ![]) (hB : S_.BroadcastsInDim B ![]) (h : Shape.Concatenates [A, S2x2x16x128, B] S2x8x16x128 1)
    (x : FVec Ideal S8x8x4x128 .fp8e4m3) {a : FVec Ideal A .fp8e4m3} {w : FVec Ideal S2x2x16x128 .fp8e4m3} {b : FVec Ideal B .fp8e4m3}
    (ea : a = zeros A hA) (ew : w = w3 x) (eb : b = zeros B hB) :
    (fun i => shapeCast S256x128 (concatenate S2x8x16x128 1 [⟨A, a⟩, ⟨S2x2x16x128, w⟩, ⟨B, b⟩] h) shapeCasts_S2x8x16x128_S256x128 i) = pad A B hA hB h x := by
  subst ea ew eb; rfl

theorem pad0_eq (c : Dev nD) : (StableHlo.upto hostOps0 (fun b => m (c, b)) 61 (Proc.devRef .tc main_v17) : FVec Ideal S256x128 .fp8e4m3) = pad0 (codes m c) := by
  have ha : StableHlo.upto hostOps0 (fun b => m (c, b)) 19 (Proc.devRef .tc main_v13) = zeros S2x0x16x128 bcast_S_S2x0x16x128 := by after_reads_simp; rfl
  have hw : StableHlo.upto hostOps0 (fun b => m (c, b)) 19 (Proc.devRef .tc main_v11) = w3 (codes m c) := by after_reads_simp; rfl
  have hb : StableHlo.upto hostOps0 (fun b => m (c, b)) 19 (Proc.devRef .tc main_v15) = zeros S2x6x16x128 bcast_S_S2x6x16x128 := by after_reads_simp; rfl
  after_reads_simp
  exact pad_eq _ _ _ _ _ _ ha hw hb

theorem pad1_eq (c : Dev nD) : (StableHlo.upto hostOps0 (fun b => m (c, b)) 61 (Proc.devRef .tc main_v23) : FVec Ideal S256x128 .fp8e4m3) = pad1 (codes m c) := by
  have ha : StableHlo.upto hostOps0 (fun b => m (c, b)) 27 (Proc.devRef .tc main_v19) = zeros S2x1x16x128 bcast_S_S2x1x16x128 := by after_reads_simp; rfl
  have hw : StableHlo.upto hostOps0 (fun b => m (c, b)) 27 (Proc.devRef .tc main_v11) = w3 (codes m c) := by after_reads_simp; rfl
  have hb : StableHlo.upto hostOps0 (fun b => m (c, b)) 27 (Proc.devRef .tc main_v21) = zeros S2x5x16x128 bcast_S_S2x5x16x128 := by after_reads_simp; rfl
  after_reads_simp
  exact pad_eq _ _ _ _ _ _ ha hw hb

theorem pad2_eq (c : Dev nD) : (StableHlo.upto hostOps0 (fun b => m (c, b)) 62 (Proc.devRef .tc main_v29) : FVec Ideal S256x128 .fp8e4m3) = pad2 (codes m c) := by
  have ha : StableHlo.upto hostOps0 (fun b => m (c, b)) 35 (Proc.devRef .tc main_v25) = zeros S2x2x16x128 bcast_S_S2x2x16x128 := by after_reads_simp; rfl
  have hw : StableHlo.upto hostOps0 (fun b => m (c, b)) 35 (Proc.devRef .tc main_v11) = w3 (codes m c) := by after_reads_simp; rfl
  have hb : StableHlo.upto hostOps0 (fun b => m (c, b)) 35 (Proc.devRef .tc main_v27) = zeros S2x4x16x128 bcast_S_S2x4x16x128 := by after_reads_simp; rfl
  after_reads_simp
  exact pad_eq _ _ _ _ _ _ ha hw hb

theorem pad3_eq (c : Dev nD) : (StableHlo.upto hostOps0 (fun b => m (c, b)) 62 (Proc.devRef .tc main_v35) : FVec Ideal S256x128 .fp8e4m3) = pad3 (codes m c) := by
  have ha : StableHlo.upto hostOps0 (fun b => m (c, b)) 43 (Proc.devRef .tc main_v31) = zeros S2x3x16x128 bcast_S_S2x3x16x128 := by after_reads_simp; rfl
  have hw : StableHlo.upto hostOps0 (fun b => m (c, b)) 43 (Proc.devRef .tc main_v11) = w3 (codes m c) := by after_reads_simp; rfl
  have hb : StableHlo.upto hostOps0 (fun b => m (c, b)) 43 (Proc.devRef .tc main_v33) = zeros S2x3x16x128 bcast_S_S2x3x16x128 := by after_reads_simp; rfl
  after_reads_simp
  exact pad_eq _ _ _ _ _ _ ha hw hb

theorem pad4_eq (c : Dev nD) : (StableHlo.upto hostOps0 (fun b => m (c, b)) 63 (Proc.devRef .tc main_v41) : FVec Ideal S256x128 .fp8e4m3) = pad4 (codes m c) := by
  have ha : StableHlo.upto hostOps0 (fun b => m (c, b)) 51 (Proc.devRef .tc main_v37) = zeros S2x4x16x128 bcast_S_S2x4x16x128 := by after_reads_simp; rfl
  have hw : StableHlo.upto hostOps0 (fun b => m (c, b)) 51 (Proc.devRef .tc main_v11) = w3 (codes m c) := by after_reads_simp; rfl
  have hb : StableHlo.upto hostOps0 (fun b => m (c, b)) 51 (Proc.devRef .tc main_v39) = zeros S2x2x16x128 bcast_S_S2x2x16x128 := by after_reads_simp; rfl
  after_reads_simp
  exact pad_eq _ _ _ _ _ _ ha hw hb

theorem pad5_eq (c : Dev nD) : (StableHlo.upto hostOps0 (fun b => m (c, b)) 63 (Proc.devRef .tc main_v47) : FVec Ideal S256x128 .fp8e4m3) = pad5 (codes m c) := by
  have ha : StableHlo.upto hostOps0 (fun b => m (c, b)) 59 (Proc.devRef .tc main_v43) = zeros S2x5x16x128 bcast_S_S2x5x16x128 := by after_reads_simp; rfl
  have hw : StableHlo.upto hostOps0 (fun b => m (c, b)) 59 (Proc.devRef .tc main_v11) = w3 (codes m c) := by after_reads_simp; rfl
  have hb : StableHlo.upto hostOps0 (fun b => m (c, b)) 59 (Proc.devRef .tc main_v45) = zeros S2x1x16x128 bcast_S_S2x1x16x128 := by after_reads_simp; rfl
  after_reads_simp
  exact pad_eq _ _ _ _ _ _ ha hw hb

theorem wb_eq (c : Dev nD) : (V m c main_v54 : FVec Ideal S3x256x256 .fp8e4m3) = wbHost (codes m c) := by
  have h51 : (StableHlo.upto hostOps0 (fun b => m (c, b)) 67 (Proc.devRef .tc main_v51) : FVec Ideal S1x256x256 .fp8e4m3) = lead (pair (pad0 (codes m c)) (pad1 (codes m c))) := by
    after_reads_simp
    exact congrArg₂ (fun a b => lead (pair a b)) (pad0_eq m c) (pad1_eq m c)
  have h52 : (StableHlo.upto hostOps0 (fun b => m (c, b)) 67 (Proc.devRef .tc main_v52) : FVec Ideal S1x256x256 .fp8e4m3) = lead (pair (pad2 (codes m c)) (pad3 (codes m c))) := by
    after_reads_simp
    exact congrArg₂ (fun a b => lead (pair a b)) (pad2_eq m c) (pad3_eq m c)
  have h53 : (StableHlo.upto hostOps0 (fun b => m (c, b)) 67 (Proc.devRef .tc main_v53) : FVec Ideal S1x256x256 .fp8e4m3) = lead (pair (pad4 (codes m c)) (pad5 (codes m c))) := by
    after_reads_simp
    exact congrArg₂ (fun a b => lead (pair a b)) (pad4_eq m c) (pad5_eq m c)
  show StableHlo.after hostOps0 (fun b => m (c, b)) (Proc.devRef .tc main_v54) = _
  after_reads_simp
  exact (congrArg₂ (fun a b => stack a b _) h51 h52).trans (congrArg (stack _ _) h53)

end Cert.KernelIdeal.Conv

end
-- ==== Proof.Conv.Equation.lean ====
/-
  The equation: a sum over the 256 rows of a laid-out weight matrix is the convolution's sum over window rows, columns and frames.
-/
module

public import proofs.«01_k».proof.Proof.Conv.Layouts

@[expose] public section

noncomputable section

namespace Cert.Conv

open Idealize.ShloMosaic Cert.KernelIdeal.Conv

/-- A sum over `m * n` numbers as `m` sums over `n`. -/
theorem sum_split {M : Type} [AddCommMonoid M] (m n : ℕ) (f : ℕ → M) : ∑ i : Fin (m * n), f i.val = ∑ a : Fin m, ∑ b : Fin n, f (n * a.val + b.val) := by
  rw [← finProdFinEquiv.sum_comp, Fintype.sum_prod_type]
  refine Finset.sum_congr rfl fun a _ => Finset.sum_congr rfl fun b _ => ?_
  exact congrArg f (Nat.add_comm ..)

/-- The 256 rows by row step, column step, row, frame and column. -/
theorem sum_rows (f : ℕ → EReal) : ∑ K : Fin 256, f K.val
    = ∑ p : Fin 2, ∑ q : Fin 2, ∑ h : Fin 4, ∑ k : Fin 4, ∑ b : Fin 4, f (128 * p.val + (64 * q.val + (16 * h.val + (4 * k.val + b.val)))) := by
  rw [sum_split 2 128 f]
  refine Finset.sum_congr rfl fun p _ => ?_
  rw [sum_split 2 64 fun n => f (128 * p.val + n)]
  refine Finset.sum_congr rfl fun q _ => ?_
  rw [sum_split 4 16 fun n => f (128 * p.val + (64 * q.val + n))]
  refine Finset.sum_congr rfl fun h _ => ?_
  rw [sum_split 4 4 fun n => f (128 * p.val + (64 * q.val + (16 * h.val + n)))]

/-- The 256 rows by row step, column, row and place in the quad. -/
theorem sum_rows' (f : ℕ → EReal) : ∑ K : Fin 256, f K.val
    = ∑ p : Fin 2, ∑ q : Fin 8, ∑ h : Fin 4, ∑ b : Fin 4, f (128 * p.val + (16 * q.val + (4 * h.val + b.val))) := by
  rw [sum_split 2 128 f]
  refine Finset.sum_congr rfl fun p _ => ?_
  rw [sum_split 8 16 fun n => f (128 * p.val + n)]
  refine Finset.sum_congr rfl fun q _ => ?_
  rw [sum_split 4 4 fun n => f (128 * p.val + (16 * q.val + n))]

/-- The window's rows and columns by step and place. -/
theorem conv_split (g : ℕ → ℕ → EReal) : ∑ a : Fin 8, ∑ b : Fin 8, g a.val b.val
    = ∑ p : Fin 2, ∑ q : Fin 2, ∑ h : Fin 4, ∑ b : Fin 4, g (4 * p.val + h.val) (4 * q.val + b.val) := by
  rw [sum_split (M := EReal) 2 4 fun a => ∑ b : Fin 8, g a b.val]
  refine Finset.sum_congr rfl fun p _ => ?_
  exact (Finset.sum_congr rfl fun h _ => sum_split (M := EReal) 2 4 fun b => g (4 * p.val + h.val) b).trans Finset.sum_comm

variable (X : (⟨2, ![18816, 128]⟩ : Shape).Idx → BitVec 32) (W : (⟨4, ![8, 8, 4, 128]⟩ : Shape).Idx → Ideal .bf16)

/-- The state's convolution from the laid-out rows. -/
theorem conv_hist (oh ow j : ℕ) (d : Fin 128) :
    ∑ K : Fin 256, px X (oh + K.val / 128) j (16 * ow + K.val % 128 / 4) (K.val % 4)
        * wt W (K.val / 128 * 4 + K.val / 16 % 4) (K.val / 64 % 2 * 4 + K.val % 4) (K.val / 4 % 4) d
      = conv (hist X j) W oh ow d := by
  rw [sum_rows fun K => px X (oh + K / 128) j (16 * ow + K % 128 / 4) (K % 4)
        * wt W (K / 128 * 4 + K / 16 % 4) (K / 64 % 2 * 4 + K % 4) (K / 4 % 4) d]
  unfold conv
  rw [conv_split fun a b => ∑ k : Fin 4, hist X j (4 * oh + a) (4 * ow + b) k.val * wt W a b k.val d]
  refine Finset.sum_congr rfl fun p _ => Finset.sum_congr rfl fun q _ => Finset.sum_congr rfl fun h _ => ?_
  rw [Finset.sum_comm]
  refine Finset.sum_congr rfl fun b _ => Finset.sum_congr rfl fun k _ => ?_
  unfold hist
  congr 2 <;> omega

/-- A term at two neighbouring places of eight, the others zero. -/
theorem sum_window (c : ℕ) (hc : c < 6) (g : ℕ → EReal) :
    ∑ q : Fin 8, (if c ≤ q.val ∧ q.val < c + 2 then g (q.val - c) else 0) = ∑ q : Fin 2, g q.val := by
  interval_cases c <;> simp [Fin.sum_univ_eight, Fin.sum_univ_two]

/-- The newest frame's part, from the rows of the matrix for place `c`. -/
theorem newest_rows (oh ow j : ℕ) (d : Fin 128) (c : ℕ) (hc : c < 6) (u : ℕ) (hu : 6 * u + c = ow) :
    ∑ K : Fin 256, px X (oh + K.val / 128) j (384 + 24 * u + K.val % 128 / 4) (K.val % 4) * padVal W c K.val d
      = ∑ p : Fin 2, ∑ q : Fin 2, ∑ h : Fin 4, ∑ b : Fin 4,
          newest X j (4 * oh + (4 * p.val + h.val)) (4 * ow + (4 * q.val + b.val)) * wt W (4 * p.val + h.val) (4 * q.val + b.val) 3 d := by
  rw [sum_rows' fun K => px X (oh + K / 128) j (384 + 24 * u + K % 128 / 4) (K % 4) * padVal W c K d]
  refine Finset.sum_congr rfl fun p _ => ?_
  rw [← sum_window c hc fun q => ∑ h : Fin 4, ∑ b : Fin 4,
          newest X j (4 * oh + (4 * p.val + h.val)) (4 * ow + (4 * q + b.val)) * wt W (4 * p.val + h.val) (4 * q + b.val) 3 d]
  refine Finset.sum_congr rfl fun q _ => ?_
  have e : ∀ h b : Fin 4, (128 * p.val + (16 * q.val + (4 * h.val + b.val))) / 16 % 8 = q.val := fun h b => by omega
  by_cases hq : c ≤ q.val ∧ q.val < c + 2
  · rw [if_pos hq]
    refine Finset.sum_congr rfl fun h _ => Finset.sum_congr rfl fun b _ => ?_
    unfold newest padVal
    rw [e, if_pos hq]
    congr 2 <;> omega
  · rw [if_neg hq]
    refine Finset.sum_eq_zero fun h _ => Finset.sum_eq_zero fun b _ => ?_
    unfold padVal
    rw [e, if_neg hq, mul_zero]

/-- The kept frames' part, from the rows shifted by a frame. -/
theorem kept_rows (oh ow j : ℕ) (d : Fin 128) :
    ∑ K : Fin 256, px X (oh + K.val / 128) j (16 * ow + K.val % 128 / 4) (K.val % 4)
        * (if K.val / 4 % 4 = 0 then 0 else wt W (K.val / 128 * 4 + K.val / 16 % 4) (K.val / 64 % 2 * 4 + K.val % 4) (K.val / 4 % 4 - 1) d)
      = ∑ p : Fin 2, ∑ q : Fin 2, ∑ h : Fin 4, ∑ b : Fin 4, ∑ k : Fin 3,
          hist X j (4 * oh + (4 * p.val + h.val)) (4 * ow + (4 * q.val + b.val)) (k.val + 1) * wt W (4 * p.val + h.val) (4 * q.val + b.val) k.val d := by
  rw [sum_rows fun K => px X (oh + K / 128) j (16 * ow + K % 128 / 4) (K % 4)
        * (if K / 4 % 4 = 0 then 0 else wt W (K / 128 * 4 + K / 16 % 4) (K / 64 % 2 * 4 + K % 4) (K / 4 % 4 - 1) d)]
  refine Finset.sum_congr rfl fun p _ => Finset.sum_congr rfl fun q _ => Finset.sum_congr rfl fun h _ => ?_
  rw [Finset.sum_comm]
  refine Finset.sum_congr rfl fun b _ => ?_
  rw [Fin.sum_univ_succ, if_pos (by simp; omega), mul_zero, zero_add]
  refine Finset.sum_congr rfl fun k _ => ?_
  rw [if_neg (by simp only [Fin.val_succ]; omega)]
  unfold hist
  simp only [Fin.val_succ]
  congr 2 <;> omega

/-- The successor state's from the rows shifted by a frame, where the episode goes on, and the newest frame's rows. -/
theorem conv_succ (oh ow j : ℕ) (d : Fin 128) (c : ℕ) (hc : c < 6) (u : ℕ) (hu : 6 * u + c = ow) :
    (if flag X j = 0#32 then ∑ K : Fin 256, px X (oh + K.val / 128) j (16 * ow + K.val % 128 / 4) (K.val % 4)
        * (if K.val / 4 % 4 = 0 then 0 else wt W (K.val / 128 * 4 + K.val / 16 % 4) (K.val / 64 % 2 * 4 + K.val % 4) (K.val / 4 % 4 - 1) d)
      else 0)
    + ∑ K : Fin 256, px X (oh + K.val / 128) j (384 + 24 * u + K.val % 128 / 4) (K.val % 4) * padVal W c K.val d
      = conv (succ X j) W oh ow d := by
  rw [newest_rows X W oh ow j d c hc u hu, kept_rows]
  unfold conv
  rw [conv_split fun a b => ∑ k : Fin 4, succ X j (4 * oh + a) (4 * ow + b) k.val * wt W a b k.val d]
  by_cases hf : flag X j = 0#32
  · rw [if_pos hf]
    simp only [← Finset.sum_add_distrib]
    refine Finset.sum_congr rfl fun p _ => Finset.sum_congr rfl fun q _ => Finset.sum_congr rfl fun h _ => Finset.sum_congr rfl fun b _ => ?_
    rw [Fin.sum_univ_castSucc (n := 3)]
    refine congrArg₂ (· + ·) (Finset.sum_congr rfl fun k _ => ?_) ?_
    · rw [succ, if_pos (show (Fin.castSucc k).val < 3 from k.isLt), if_pos hf]; rfl
    · rw [succ, if_neg (by simp)]; rfl
  · rw [if_neg hf, zero_add]
    refine Finset.sum_congr rfl fun p _ => Finset.sum_congr rfl fun q _ => Finset.sum_congr rfl fun h _ => Finset.sum_congr rfl fun b _ => ?_
    rw [Fin.sum_univ_castSucc (n := 3), Finset.sum_eq_zero, zero_add]
    · rw [succ, if_neg (by simp)]; rfl
    · intro k _
      rw [succ, if_pos (show (Fin.castSucc k).val < 3 from k.isLt), if_neg hf, zero_mul]

end Cert.Conv

end
-- ==== Proof.Conv.Features.lean ====
/-
  The kernel's two result arrays at an index: the clamped features of the state's frames and of the successor's.
-/
module

public import proofs.«01_k».proof.Proof.Conv.Arrays
public import proofs.«01_k».proof.Proof.Conv.Weights
public import proofs.«01_k».proof.Proof.Conv.Equation

@[expose] public section

set_option maxRecDepth 16384

noncomputable section

namespace Cert.KernelIdeal.Conv

open Idealize.ShloMosaic Idealize.ShloMosaic.TcCoe Cert.KernelIdeal.Gen Cert.Conv

variable (m : (ℓ : Loc nD τ sig) → Buf (Elt Ideal) ℓ)

/-- The words as launched. -/
abbrev wordsOf (c : Dev nD) : (⟨2, ![18816, 128]⟩ : Shape).Idx → BitVec 32 := m ((c : Thread nD τ).loc main_arg0)

theorem words_isBand (c : Dev nD) (B : ℕ) (hB : B ≤ 20) : IsBand (wordsOf m c) B (words m c B) := fun i l => by
  rw [words_apply m c B (by omega), Nat.min_eq_left hB]
  unfold word
  congr 2
  exact Fin.ext (Nat.mod_eq_of_lt l.isLt).symm

/-- A slab holds a band for three points. -/
theorem slab_at {N : ℕ} (Z : ℕ → (⟨4, ![3, N, 224, 128]⟩ : Shape).Idx → Ideal .bf16) (G : ℕ → (⟨4, ![3, N, 224, 128]⟩ : Shape).Idx → Ideal .bf16)
    (Z0 : (⟨4, ![3, N, 224, 128]⟩ : Shape).Idx → Ideal .bf16)
    (h0 : Z 0 = slabSet 0 (G 0) Z0) (hs : ∀ n, Z (n + 1) = slabSet (n + 1) (G (n + 1)) (Z n)) (n B : ℕ) (h1 : B ≤ n) (h2 : n < B + 3)
    (y : (⟨4, ![3, N, 224, 128]⟩ : Shape).Idx) (hy : (y 0).val = B % 3) : Z n y = G B y := by
  induction n with
  | zero =>
    obtain rfl : B = 0 := by omega
    rw [h0]; exact if_pos hy
  | succ n ih =>
    rw [hs]
    unfold slabSet
    by_cases hB : B = n + 1
    · subst hB; exact if_pos hy
    · rw [if_neg (by omega)]
      exact ih (by omega) (by omega)

theorem z_at (c : Dev nD) (n B : ℕ) (h1 : B ≤ n) (h2 : n < B + 3) (hB : B ≤ 20) (s : ℕ) (hs : s % 3 = B % 3) (ow : ℕ) (how : ow < 20) (j : Fin 224) (r : Fin 128) :
    slab (zAt m c n) s ow (ix4 0 0 j r) = px (wordsOf m c) B j.val (16 * ow + r.val / 4) (r.val % 4) := by
  have e : Fin.ofNat 20 ow = ⟨ow, how⟩ := Fin.ext (Nat.mod_eq_of_lt how)
  have key := slab_at (zAt m c) (fun n => windows 1536 64 (cols3 (words m c n))) k0_pay4 rfl (fun _ => rfl) n B h1 h2
    (ix4 (Fin.ofNat 3 s) (Fin.ofNat 20 ow) j r) hs
  exact key.trans (by rw [windows3_apply (words_isBand m c B hB), e])

theorem z4_at (c : Dev nD) (n B : ℕ) (h1 : B ≤ n) (h2 : n < B + 3) (hB : B ≤ 20) (s : ℕ) (hs : s % 3 = B % 3) (q : ℕ) (hq : q < 4) (j : Fin 224) (r : Fin 128) :
    slab (z4At m c n) s q (ix4 0 0 j r) = px (wordsOf m c) B j.val (384 + 24 * q + r.val / 4) (r.val % 4) := by
  have e : Fin.ofNat 4 q = ⟨q, hq⟩ := Fin.ext (Nat.mod_eq_of_lt hq)
  have key := slab_at (z4At m c) (fun n => windows 512 96 (cols1 (words m c n))) k0_pay5 rfl (fun _ => rfl) n B h1 h2
    (ix4 (Fin.ofNat 3 s) (Fin.ofNat 4 q) j r) hs
  exact key.trans (by rw [windows1_apply (words_isBand m c B hB), e])

/-- Two slabs beside each other at point `oh + 2`: rows of bands `oh` and `oh + 1`. -/
theorem lhs_at (c : Dev nD) (oh : ℕ) (hoh : oh < 20) (ow : ℕ) (how : ow < 20) (j : Fin 224) (K : Fin 256) :
    (if h : K.val < 128 then slab (zAt m c (oh + 2)) (oh + 2 + 1) ow (ix4 0 0 j ⟨K.val, h⟩)
      else slab (zAt m c (oh + 2)) (oh + 2 + 2) ow (ix4 0 0 j ⟨K.val - 128, by omega⟩))
      = px (wordsOf m c) (oh + K.val / 128) j.val (16 * ow + K.val % 128 / 4) (K.val % 4) := by
  split
  · rename_i h
    rw [z_at m c (oh + 2) oh (by omega) (by omega) (by omega) _ (by omega) ow how]
    have e1 : K.val / 128 = 0 := by omega
    have e2 : K.val % 128 = K.val := by omega
    rw [e1, e2]; rfl
  · rename_i h
    rw [z_at m c (oh + 2) (oh + 1) (by omega) (by omega) (by omega) _ (by omega) ow how]
    have e1 : K.val / 128 = 1 := by omega
    have e2 : K.val % 128 = K.val - 128 := by omega
    have e3 : K.val % 4 = (K.val - 128) % 4 := by omega
    rw [e1, e2, e3]

theorem lhs4_at (c : Dev nD) (oh : ℕ) (hoh : oh < 20) (q : ℕ) (hq : q < 4) (j : Fin 224) (K : Fin 256) :
    (if h : K.val < 128 then slab (z4At m c (oh + 2)) (oh + 2 + 1) q (ix4 0 0 j ⟨K.val, h⟩)
      else slab (z4At m c (oh + 2)) (oh + 2 + 2) q (ix4 0 0 j ⟨K.val - 128, by omega⟩))
      = px (wordsOf m c) (oh + K.val / 128) j.val (384 + 24 * q + K.val % 128 / 4) (K.val % 4) := by
  split
  · rename_i h
    rw [z4_at m c (oh + 2) oh (by omega) (by omega) (by omega) _ (by omega) q hq]
    have e1 : K.val / 128 = 0 := by omega
    have e2 : K.val % 128 = K.val := by omega
    rw [e1, e2]; rfl
  · rename_i h
    rw [z4_at m c (oh + 2) (oh + 1) (by omega) (by omega) (by omega) _ (by omega) q hq]
    have e1 : K.val / 128 = 1 := by omega
    have e2 : K.val % 128 = K.val - 128 := by omega
    have e3 : K.val % 4 = (K.val - 128) % 4 := by omega
    rw [e1, e2, e3]

theorem wa_at (c : Dev nD) : waOf m c = waHost (codes m c) := by
  funext i
  rw [waOf, pay2_apply, iblk1, wa_eq]

theorem wb_at (c : Dev nD) : wbOf m c = wbHost (codes m c) := by
  funext i
  rw [wbOf, pay3_apply, iblk2, wb_eq]

/-- Scale and bias of a channel, as launched. -/
abbrev scaleOf (c : Dev nD) : FVec Ideal S128 .f32 := m ((c : Thread nD τ).loc main_arg2)
abbrev biasOf (c : Dev nD) : FVec Ideal S128 .f32 := m ((c : Thread nD τ).loc main_arg3)

theorem scale_at (c : Dev nD) (t : Fin cfg0.N) (d : Fin 128) : k0_pay8 (iblk m c 3 t) (ix2 0 d) = scaleOf m c (ix1 d) := by
  rw [pay8_apply, iblk3, scale_eq]
  pointwise []

theorem bias_at (c : Dev nD) (t : Fin cfg0.N) (d : Fin 128) : k0_pay9 (iblk m c 4 t) (ix2 0 d) = biasOf m c (ix1 d) := by
  rw [pay9_apply, iblk4, bias_eq]
  pointwise []

theorem toFin {N : ℕ} [NeZero N] (a : ℕ) (h : a < N) : Fin.ofNat N a = ⟨a, h⟩ := Fin.ext (Nat.mod_eq_of_lt h)

/-- A state's product at point `oh + 2`, left half: the convolution of its history. -/
theorem sum_left (c : Dev nD) (oh : ℕ) (hoh : oh < 20) (ow : ℕ) (how : ow < 20) (j : Fin 224) (d : Fin 128) :
    ∑ K : Fin 256, (if h : K.val < 128 then slab (zAt m c (oh + 2)) (oh + 2 + 1) ow (ix4 0 0 j ⟨K.val, h⟩)
        else slab (zAt m c (oh + 2)) (oh + 2 + 2) ow (ix4 0 0 j ⟨K.val - 128, by omega⟩))
        * waOf m c (ix2 K ⟨d.val, by omega⟩)
      = conv (hist (wordsOf m c) j.val) (codes m c) oh ow d := by
  rw [← conv_hist (wordsOf m c) (codes m c) oh ow j.val d]
  refine Finset.sum_congr rfl fun K _ => ?_
  rw [lhs_at m c oh hoh ow how j K, wa_at, waHost_left]

/-- The same product, right half: the history moved on by a frame. -/
theorem sum_right (c : Dev nD) (oh : ℕ) (hoh : oh < 20) (ow : ℕ) (how : ow < 20) (j : Fin 224) (d : Fin 128) :
    ∑ K : Fin 256, (if h : K.val < 128 then slab (zAt m c (oh + 2)) (oh + 2 + 1) ow (ix4 0 0 j ⟨K.val, h⟩)
        else slab (zAt m c (oh + 2)) (oh + 2 + 2) ow (ix4 0 0 j ⟨K.val - 128, by omega⟩))
        * waOf m c (ix2 K ⟨128 + d.val, by omega⟩)
      = ∑ K : Fin 256, px (wordsOf m c) (oh + K.val / 128) j.val (16 * ow + K.val % 128 / 4) (K.val % 4)
          * (if K.val / 4 % 4 = 0 then 0 else wt (codes m c) (K.val / 128 * 4 + K.val / 16 % 4) (K.val / 64 % 2 * 4 + K.val % 4) (K.val / 4 % 4 - 1) d) := by
  refine Finset.sum_congr rfl fun K _ => ?_
  rw [lhs_at m c oh hoh ow how j K, wa_at, waHost_right]

/-- The newest frame's product for column `6 * u + cc`, read at its place among the 256 columns. -/
theorem sum_last (c : Dev nD) (oh : ℕ) (hoh : oh < 20) (u : ℕ) (hu : u < 4) (v cc : ℕ) (hv : v < 3) (j : Fin 224) (d : Fin 128) (D : Fin 256)
    (hD : D.val = 128 * (cc - 2 * v) + d.val) (h1 : 2 * v ≤ cc) (h2 : cc < 2 * v + 2) (p : ℕ) (hp : p = 3 * u + v) :
    lastProd (oh + 2) (z4At m c (oh + 2)) (wbOf m c) p (ix2 j D)
      = ∑ K : Fin 256, px (wordsOf m c) (oh + K.val / 128) j.val (384 + 24 * u + K.val % 128 / 4) (K.val % 4) * padVal (codes m c) cc K.val d := by
  unfold lastProd
  rw [pay72_apply]
  refine Finset.sum_congr rfl fun K _ => ?_
  have e1 : p / 3 = u := by omega
  have e2 : p % 3 = v := by omega
  rw [e1, e2, lhs4_at m c oh hoh u hu j K]
  congr 1
  have e3 : wbAt (wbOf m c) v (ix3 0 K D) = wbOf m c (ix3 (Fin.ofNat 3 v) K D) := rfl
  rw [e3, toFin v hv, wb_at, wbHost_apply]
  have e4 : 2 * v + D.val / 128 = cc := by omega
  have e5 : (⟨D.val % 128, Nat.mod_lt _ (by decide)⟩ : Fin 128) = d := Fin.ext (by show D.val % 128 = d.val; omega)
  show padVal (codes m c) (2 * v + D.val / 128) K.val ⟨D.val % 128, _⟩ = _
  rw [e4, e5]

theorem stacked_at (f : Fin cfg0.N → Vec Ideal S1x20x224x128 .bf16) (oh ow : Fin 20) (j : Fin 224) (d : Fin 128) :
    stacked f (ix4 oh ow j d) = f (pt (oh.val + 2)) (ix4 0 ow j d) := by
  show f (pt (oh.val + 2)) (ix4 0 (Fin.ofNat 20 ow.val) (Fin.ofNat 224 j.val) (Fin.ofNat 128 d.val)) = _
  rw [toFin _ ow.isLt, toFin _ j.isLt, toFin _ d.isLt]

theorem pt_at (oh : Fin 20) : (pt (oh.val + 2)).val = oh.val + 2 := Nat.mod_eq_of_lt (by have := oh.isLt; show oh.val + 2 < 22; omega)

theorem state_at (c : Dev nD) (oh ow : Fin 20) (j : Fin 224) (d : Fin 128) :
    stacked (sAt m c) (ix4 oh ow j d) = feature (codes m c) (hist (wordsOf m c) j.val) (scaleOf m c) (biasOf m c) oh.val ow.val d := by
  have e : stacked (sAt m c) (ix4 oh ow j d) = k0_pay86 (k0_pay8 (iblk m c 3 (pt (oh.val + 2)))) (k0_pay9 (iblk m c 4 (pt (oh.val + 2))))
      (slab (zAt m c (oh.val + 2)) (oh.val + 2 + 1) ow.val) (slab (zAt m c (oh.val + 2)) (oh.val + 2 + 2) ow.val) (waOf m c) (ix4 0 0 j d) := by
    rw [stacked_at]
    show k0_pay86 _ _ (slab (zAt m c (pt (oh.val + 2)).val) ((pt (oh.val + 2)).val + 1) ow.val) (slab (zAt m c (pt (oh.val + 2)).val) ((pt (oh.val + 2)).val + 2) ow.val) _ _ = _
    rw [pt_at]
    rfl
  rw [e, pay86_apply, pay85_apply, scale_at, bias_at, sum_left m c oh.val oh.isLt ow.val ow.isLt j d]
  rfl

theorem next_at (c : Dev nD) (oh ow : Fin 20) (j : Fin 224) (d : Fin 128) :
    stacked (nAt m c) (ix4 oh ow j d) = feature (codes m c) (succ (wordsOf m c) j.val) (scaleOf m c) (biasOf m c) oh.val ow.val d := by
  have hg : (gOf m c (ix2 j d) = 0#32) = ¬ (flag (wordsOf m c) j.val = 0#32) := by
    rw [gOf, pay7_apply, gate_apply (words_isBand m c 0 (by omega))]
    split <;> simp_all
  unfold feature
  rw [← conv_succ (wordsOf m c) (codes m c) oh.val ow.val j.val d (ow.val % 6) (by omega) (ow.val / 6) (by omega),
    ← sum_right m c oh.val oh.isLt ow.val ow.isLt j d]
  by_cases h : ow.val % 2 = 0
  · have e : stacked (nAt m c) (ix4 oh ow j d) = k0_pay76 (k0_pay8 (iblk m c 3 (pt (oh.val + 2)))) (k0_pay9 (iblk m c 4 (pt (oh.val + 2))))
        (lastProd (oh.val + 2) (z4At m c (oh.val + 2)) (wbOf m c) (ow.val / 2))
        (k0_pay73 (slab (zAt m c (oh.val + 2)) (oh.val + 2 + 1) ow.val) (slab (zAt m c (oh.val + 2)) (oh.val + 2 + 2) ow.val) (waOf m c)) (gOf m c) (ix4 0 0 j d) := by
      rw [stacked_at]
      show (if ow.val % 2 = 0 then _ else _ : Vec Ideal S1x1x224x128 .bf16) _ = _
      rw [if_pos h, pt_at]
      rfl
    rw [e, pay76_apply, pay73_apply, scale_at, bias_at,
      sum_last m c oh.val oh.isLt (ow.val / 6) (by omega) (ow.val % 6 / 2) (ow.val % 6) (by omega) j d _ (by show d.val = _; omega) (by omega) (by omega) _ (by omega)]
    simp only [hg, ite_not]
  · have e : stacked (nAt m c) (ix4 oh ow j d) = k0_pay81 (k0_pay8 (iblk m c 3 (pt (oh.val + 2)))) (k0_pay9 (iblk m c 4 (pt (oh.val + 2))))
        (lastProd (oh.val + 2) (z4At m c (oh.val + 2)) (wbOf m c) (ow.val / 2))
        (k0_pay73 (slab (zAt m c (oh.val + 2)) (oh.val + 2 + 1) ow.val) (slab (zAt m c (oh.val + 2)) (oh.val + 2 + 2) ow.val) (waOf m c)) (gOf m c) (ix4 0 0 j d) := by
      rw [stacked_at]
      show (if ow.val % 2 = 0 then _ else _ : Vec Ideal S1x1x224x128 .bf16) _ = _
      rw [if_neg h, pt_at]
      rfl
    rw [e, pay81_apply, pay73_apply, scale_at, bias_at,
      sum_last m c oh.val oh.isLt (ow.val / 6) (by omega) (ow.val % 6 / 2) (ow.val % 6) (by omega) j d _ (by show 128 + d.val = _; omega) (by omega) (by omega) _ (by omega)]
    simp only [hg, ite_not]

end Cert.KernelIdeal.Conv

end
-- ==== Proof.Conv.Reference.lean ====
/-
  The reference at an index: its pixels, windows and contraction give the clamped features of the plain statement.
-/
module

public import proofs.«01_k».proof.Proof.Gen.ReferenceIdeal.Read
public import proofs.«01_k».proof.Proof.Conv.Blocks
public import Idealize.ShloMosaic.Lib.BitcastConvert

@[expose] public section

set_option maxRecDepth 16384

noncomputable section

namespace Cert.ReferenceIdeal.Conv

open Idealize.ShloMosaic Idealize.ShloMosaic.TcCoe Cert.ReferenceIdeal.Gen Cert.ReferenceIdeal Cert.ReferenceIdeal.Read Cert.Conv

variable (x0 : (⟨S18816x128, .i32⟩ : BufTy).Contents (Elt Ideal))

theorem toFin {N : ℕ} [NeZero N] (a : ℕ) (h : a < N) : Fin.ofNat N a = ⟨a, h⟩ := Fin.ext (Nat.mod_eq_of_lt h)

/-- Byte `b` of word `w` of record `j`, band `B`. -/
def rawByte (B j w b : ℕ) : BitVec 8 := (word x0 (896 * B + 4 * j + w / 128) (w % 128)).extractLsb' (8 * b) 8

theorem rawByte_congr {B B' j j' w w' b b' : ℕ} (h1 : B = B') (h2 : j = j') (h3 : w = w') (h4 : b = b') :
    rawByte x0 B j w b = rawByte x0 B' j' w' b' := by rw [h1, h2, h3, h4]

/-- The words laid out by band, record and word. -/
theorem words_apply (B : Fin 21) (j : Fin 224) (w : Fin 512) :
    val_main_v1 (F := Ideal) x0 (ix3 B j w) = word x0 (896 * B.val + 4 * j.val + w.val / 128) (w.val % 128) := by
  rw [val_main_v1_apply]
  unfold word
  congr 1
  funext a
  match a with
  | ⟨0, _⟩ =>
    refine Fin.ext ?_
    show ((B.val * 224 + j.val) * 512 + w.val) / 128 = (896 * B.val + 4 * j.val + w.val / 128) % 18816
    omega
  | ⟨1, _⟩ =>
    refine Fin.ext ?_
    show ((B.val * 224 + j.val) * 512 + w.val) % 128 = w.val % 128 % 128
    omega

/-- A byte of a word, as the reference unpacks it. -/
theorem bytes_apply (B : Fin 21) (j : Fin 224) (w : Fin 512) (b : Fin 4) : val_main_v2 (F := Ideal) x0 (ix4 B j w b) = rawByte x0 B.val j.val w.val b.val := by
  unfold val_main_v2
  rw [Host.bitcastConvertNarrow_apply]
  have e : (Shape.SplitsWords.drop splits_S21x224x512_w32_S21x224x512x4_w8 (ix4 B j w b) : S21x224x512.Idx) = ix3 B j w := by
    funext a
    match a with
    | ⟨0, _⟩ => rfl
    | ⟨1, _⟩ => rfl
    | ⟨2, _⟩ => rfl
  unfold rawByte
  rw [e, words_apply]
  rw [Nat.mul_comm 8]
  rfl

/-- The state's four frames in bytes. -/
theorem hist_apply (j : Fin 224) (r c : Fin 84) (k : Fin 4) : val_main_v6 (F := Ideal) x0 (ix4 j r c k)
    = rawByte x0 (r.val / 4) j.val (16 * (c.val / 4) + 4 * (r.val % 4) + k.val) (c.val % 4) := by
  have h : val_main_v6 (F := Ideal) x0 (ix4 j r c k) = val_main_v2 x0 (ix4 ⟨r.val / 4, by omega⟩ j ⟨c.val / 4 * 16 + r.val % 4 * 4 + k.val, by omega⟩ ⟨c.val % 4, by omega⟩) := by
    pointwise [val_main_v6, val_main_v5, val_main_v4, val_main_v3]
  rw [h, bytes_apply]
  exact rawByte_congr x0 rfl rfl (by show c.val / 4 * 16 + r.val % 4 * 4 + k.val = _; omega) rfl

/-- The frame that follows, in bytes. -/
theorem newest_apply (j : Fin 224) (r c : Fin 84) : val_main_v10 (F := Ideal) x0 (ix4 j r c 0)
    = rawByte x0 (r.val / 4) j.val (384 + 4 * (c.val / 4) + r.val % 4) (c.val % 4) := by
  have h : val_main_v10 (F := Ideal) x0 (ix4 j r c 0) = val_main_v2 x0 (ix4 ⟨r.val / 4, by omega⟩ j ⟨384 + (c.val / 4 * 4 + r.val % 4), by omega⟩ ⟨c.val % 4, by omega⟩) := by
    pointwise [val_main_v10, val_main_v9, val_main_v8, val_main_v7]
  rw [h, bytes_apply]
  exact rawByte_congr x0 rfl rfl (by show 384 + (c.val / 4 * 4 + r.val % 4) = _; omega) rfl

/-- The successor's four frames in bytes. -/
theorem succ_apply (j : Fin 224) (r c : Fin 84) (k : Fin 4) : val_main_v18 (F := Ideal) x0 (ix4 j r c k)
    = if k.val < 3 then (if flag x0 j.val = 0#32 then rawByte x0 (r.val / 4) j.val (16 * (c.val / 4) + 4 * (r.val % 4) + (k.val + 1)) (c.val % 4) else 0#8)
      else rawByte x0 (r.val / 4) j.val (384 + 4 * (c.val / 4) + r.val % 4) (c.val % 4) := by
  have h : val_main_v18 (F := Ideal) x0 (ix4 j r c k) = if h : k.val < 3 then
      Scalar.select (IntOp.cmpi CmpIPredicate.eq (val_main_v1 x0 (ix3 0 j 480)) 0#32) (val_main_v6 x0 (ix4 j r c ⟨1 + k.val, by omega⟩)) 0#8
      else val_main_v10 x0 (ix4 j r c ⟨k.val - 3, by omega⟩) := by
    pointwise [val_main_v18, val_main_v17, val_main_v16, val_main_v15, val_main_v14, val_main_v13, val_main_v12, val_main_v11, val_main_c, val_main_c_0, val_main_call0_v0, val_main_call0_v1]
  rw [h]
  by_cases hk : k.val < 3
  · rw [dif_pos hk, if_pos hk, Cert.KernelIdeal.Conv.select_zero, hist_apply, words_apply]
    have e : word x0 (896 * (0 : Fin 21).val + 4 * j.val + (480 : Fin 512).val / 128) ((480 : Fin 512).val % 128) = flag x0 j.val := by
      unfold flag
      congr 1
      show 896 * 0 + 4 * j.val + 480 / 128 = _
      omega
    rw [e]
    refine if_congr Iff.rfl (rawByte_congr x0 rfl rfl ?_ rfl) rfl
    show _ + (1 + k.val) = _
    omega
  · rw [dif_neg hk, if_neg hk]
    have e : (⟨k.val - 3, by omega⟩ : Fin 1) = 0 := Subsingleton.elim _ _
    rw [e, newest_apply]

/-- The stack of eight row slices at stride 4 (and `rows84` likewise) reads row `4 * oh + a`. -/
theorem rows38 (j : Fin 224) (oh : Fin 20) (a : Fin 8) (r : Fin 84) (k : Fin 4) :
    val_main_v38 (F := Ideal) x0 (ix5 j oh a r k) = val_main_v21 x0 (ix4 j ⟨4 * oh.val + a.val, by omega⟩ r k) := by
  pointwise [val_main_v38, val_main_v22, val_main_v23, val_main_v24, val_main_v25, val_main_v26, val_main_v27, val_main_v28, val_main_v29, val_main_v30, val_main_v31, val_main_v32, val_main_v33, val_main_v34, val_main_v35, val_main_v36, val_main_v37]
  split_ifs <;> exact congrArg (fun u => val_main_v21 (F := Ideal) x0 (ix4 j u r k)) (Fin.ext (by simp only []; omega))

/-- The stack of eight column slices at stride 4 (and `cols101` likewise) reads column `4 * ow + b`. -/
theorem cols55 (j : Fin 224) (oh : Fin 20) (a : Fin 8) (ow : Fin 20) (b : Fin 8) (k : Fin 4) :
    val_main_v55 (F := Ideal) x0 (ix6 j oh a ow b k) = val_main_v38 x0 (ix5 j oh a ⟨4 * ow.val + b.val, by omega⟩ k) := by
  pointwise [val_main_v55, val_main_v39, val_main_v40, val_main_v41, val_main_v42, val_main_v43, val_main_v44, val_main_v45, val_main_v46, val_main_v47, val_main_v48, val_main_v49, val_main_v50, val_main_v51, val_main_v52, val_main_v53, val_main_v54]
  split_ifs <;> exact congrArg (fun u => val_main_v38 (F := Ideal) x0 (ix5 j oh a u k)) (Fin.ext (by simp only []; omega))

theorem rows84 (j : Fin 224) (oh : Fin 20) (a : Fin 8) (r : Fin 84) (k : Fin 4) :
    val_main_v84 (F := Ideal) x0 (ix5 j oh a r k) = val_main_v67 x0 (ix4 j ⟨4 * oh.val + a.val, by omega⟩ r k) := by
  pointwise [val_main_v84, val_main_v68, val_main_v69, val_main_v70, val_main_v71, val_main_v72, val_main_v73, val_main_v74, val_main_v75, val_main_v76, val_main_v77, val_main_v78, val_main_v79, val_main_v80, val_main_v81, val_main_v82, val_main_v83]
  split_ifs <;> exact congrArg (fun u => val_main_v67 (F := Ideal) x0 (ix4 j u r k)) (Fin.ext (by simp only []; omega))

theorem cols101 (j : Fin 224) (oh : Fin 20) (a : Fin 8) (ow : Fin 20) (b : Fin 8) (k : Fin 4) :
    val_main_v101 (F := Ideal) x0 (ix6 j oh a ow b k) = val_main_v84 x0 (ix5 j oh a ⟨4 * ow.val + b.val, by omega⟩ k) := by
  pointwise [val_main_v101, val_main_v85, val_main_v86, val_main_v87, val_main_v88, val_main_v89, val_main_v90, val_main_v91, val_main_v92, val_main_v93, val_main_v94, val_main_v95, val_main_v96, val_main_v97, val_main_v98, val_main_v99, val_main_v100]
  split_ifs <;> exact congrArg (fun u => val_main_v84 (F := Ideal) x0 (ix5 j oh a u k)) (Fin.ext (by simp only []; omega))

/-- A byte widened to a word and taken as a number. -/
theorem byte_real (b : BitVec 8) : FloatOps.truncf (F := Ideal) .bf16 bitsLt_bf16_f32 (FloatOps.sitofp (F := Ideal) .f32 (b.setWidth 32))
    = FloatOps.uitofp (F := Ideal) .bf16 b := by
  show (((b.setWidth 32).toInt : ℝ) : EReal) = ((b.toNat : ℝ) : EReal)
  have h := b.isLt
  have e : (b.setWidth 32).toInt = (b.toNat : ℤ) := by
    rw [BitVec.toInt_eq_toNat_of_lt] <;> simp <;> omega
  rw [e]
  simp

/-- The state's pixels as numbers. -/
theorem hist_pix (j : Fin 224) (r c : Fin 84) (k : Fin 4) : val_main_v21 (F := Ideal) x0 (ix4 j r c k) = hist x0 j.val r.val c.val k.val := by
  rw [val_main_v21_apply, val_main_v20_apply]
  exact (byte_real _).trans (congrArg _ (hist_apply x0 j r c k))

/-- The successor's pixels as numbers. -/
theorem succ_pix (j : Fin 224) (r c : Fin 84) (k : Fin 4) : val_main_v67 (F := Ideal) x0 (ix4 j r c k) = succ x0 j.val r.val c.val k.val := by
  rw [val_main_v67_apply, val_main_v66_apply]
  refine (byte_real _).trans ((congrArg _ (succ_apply x0 j r c k)).trans ?_)
  unfold succ
  split_ifs
  · rfl
  · show (((0#8).toNat : ℝ) : EReal) = 0
    simp
  · rfl

/-- A sum over the contracted axes: tap row, tap column and frame. -/
def taps : Fin 8 × Fin 8 × Fin 4 ≃ dot_S224x20x8x20x8x4_S8x8x4x128_S224x20x20x128_245_012_013_3_n_n.contr.Idx where
  toFun t := fun p => match p with
    | ⟨0, _⟩ => t.1
    | ⟨1, _⟩ => t.2.1
    | ⟨2, _⟩ => t.2.2
  invFun kk := (kk ⟨0, by decide⟩, kk ⟨1, by decide⟩, kk ⟨2, by decide⟩)
  left_inv _ := rfl
  right_inv kk := funext fun p => match p with
    | ⟨0, _⟩ => rfl
    | ⟨1, _⟩ => rfl
    | ⟨2, _⟩ => rfl

/-- The contraction over the three window axes as three sums. -/
theorem dot_apply (L : S224x20x8x20x8x4.Idx → Ideal .bf16) (R : S8x8x4x128.Idx → Ideal .bf16) (j : Fin 224) (oh ow : Fin 20) (d : Fin 128) :
    Host.dotGeneral (F := Ideal) dot_S224x20x8x20x8x4_S8x8x4x128_S224x20x20x128_245_012_013_3_n_n none L R (ix4 j oh ow d)
      = ∑ a : Fin 8, ∑ b : Fin 8, ∑ k : Fin 4, L (ix6 j oh a ow b k) * R (ix4 a b k d) := by
  have e : ∀ x y : EReal, x = 0 + y → x = y := fun x y h => h.trans (zero_add y)
  refine e _ _ ?_
  refine Eq.trans (b := (0 : EReal) + ∑ kk, L (DotDims.lhsIdx dot_S224x20x8x20x8x4_S8x8x4x128_S224x20x20x128_245_012_013_3_n_n (ix4 j oh ow d) kk)
    * R (DotDims.rhsIdx dot_S224x20x8x20x8x4_S8x8x4x128_S224x20x20x128_245_012_013_3_n_n (ix4 j oh ow d) kk)) ?_ ?_
  · pointwise []
    exact zero_add _
  · congr 1
    rw [← Equiv.sum_comp taps, Fintype.sum_prod_type]
    refine Finset.sum_congr rfl fun a _ => ?_
    rw [Fintype.sum_prod_type]
    refine Finset.sum_congr rfl fun b _ => Finset.sum_congr rfl fun k _ => ?_
    congr 2
    · funext p
      match p with
      | ⟨0, _⟩ => rfl
      | ⟨1, _⟩ => rfl
      | ⟨2, _⟩ => rfl
      | ⟨3, _⟩ => rfl
      | ⟨4, _⟩ => rfl
      | ⟨5, _⟩ => rfl
    · funext p
      match p with
      | ⟨0, _⟩ => rfl
      | ⟨1, _⟩ => rfl
      | ⟨2, _⟩ => rfl
      | ⟨3, _⟩ => rfl

variable (x2 x3 : (⟨S128, .f32⟩ : BufTy).Contents (Elt Ideal)) (r0 : (⟨S8x8x4x128, .bf16⟩ : BufTy).Contents (Elt Ideal))

/-- The state's contraction is the convolution. -/
theorem state_conv (j : Fin 224) (oh ow : Fin 20) (d : Fin 128) :
    val_main_v56 (F := Ideal) x0 r0 (ix4 j oh ow d) = conv (hist x0 j.val) r0 oh.val ow.val d := by
  refine (dot_apply _ r0 j oh ow d).trans ?_
  refine Finset.sum_congr rfl fun a _ => Finset.sum_congr rfl fun b _ => Finset.sum_congr rfl fun k _ => ?_
  rw [cols55, rows38, hist_pix]
  unfold wt
  rw [toFin a.val a.isLt, toFin b.val b.isLt, toFin k.val k.isLt]

/-- The successor's contraction is the convolution. -/
theorem next_conv (j : Fin 224) (oh ow : Fin 20) (d : Fin 128) :
    val_main_v102 (F := Ideal) x0 r0 (ix4 j oh ow d) = conv (succ x0 j.val) r0 oh.val ow.val d := by
  refine (dot_apply _ r0 j oh ow d).trans ?_
  refine Finset.sum_congr rfl fun a _ => Finset.sum_congr rfl fun b _ => Finset.sum_congr rfl fun k _ => ?_
  rw [cols101, rows84, succ_pix]
  unfold wt
  rw [toFin a.val a.isLt, toFin b.val b.isLt, toFin k.val k.isLt]

/-- The first result at an index. -/
theorem state_ref (oh ow : Fin 20) (j : Fin 224) (d : Fin 128) :
    val_main_v111 (F := Ideal) x0 x2 x3 r0 (ix4 oh ow j d) = feature r0 (hist x0 j.val) x2 x3 oh.val ow.val d := by
  unfold feature
  rw [← state_conv]
  pointwise [val_main_v111, val_main_v64, val_main_v63, val_main_v62, val_main_v61, val_main_v60, val_main_v59, val_main_v58, val_main_v57, val_main_call1_v0, val_main_call1_cst]

/-- The second result at an index. -/
theorem next_ref (oh ow : Fin 20) (j : Fin 224) (d : Fin 128) :
    val_main_v112 (F := Ideal) x0 x2 x3 r0 (ix4 oh ow j d) = feature r0 (succ x0 j.val) x2 x3 oh.val ow.val d := by
  unfold feature
  rw [← next_conv]
  pointwise [val_main_v112, val_main_v110, val_main_v109, val_main_v108, val_main_v107, val_main_v106, val_main_v105, val_main_v104, val_main_v103, val_main_call2_v0, val_main_call2_cst]

end Cert.ReferenceIdeal.Conv

end
-- ==== Proof.Conv.Cast.lean ====
/-
  The reference's cast of the weight codes: over the reals the array it leaves holds the codes themselves.
-/
module

public import proofs.«01_k».proof.Proof.Gen.ReferenceIdeal.Run
public import Idealize.ShloMosaic.Lib.Pipeline.ValueKit

@[expose] public section

set_option maxRecDepth 16384

noncomputable section

namespace Cert.ReferenceIdeal.Conv

open Idealize.ShloMosaic Idealize.ShloMosaic.TcCoe Cert.ReferenceIdeal.Gen Cert.ReferenceIdeal

variable (m : (ℓ : Loc nD τ sig) → Buf (Elt Ideal) ℓ)

theorem index0 : ∀ t : Fin cfg0.N, win0_0.index t = ![0, 0, 0, 0] := (by decide +kernel : ∀ t : Fin grid0.N, win0_0.index t = ![0, 0, 0, 0])
theorem index1 : ∀ t : Fin cfg0.N, win0_1.index t = ![0, 0, 0, 0] := (by decide +kernel : ∀ t : Fin grid0.N, win0_1.index t = ![0, 0, 0, 0])

/-- The weight codes as launched. -/
abbrev codes (c : Dev nD) : S8x8x4x128.Idx → EReal := m ((c : Thread nD τ).loc main_arg1)

theorem block_eq (c : Dev nD) (t : Fin cfg0.N) : (iblk m c 0 t : S8x8x4x128.Idx → EReal) = codes m c := by
  funext i
  blk_simp [iblk]
  refine congrArg (codes m c) (funext fun a => Fin.ext ?_)
  match a with
  | ⟨0, _⟩ => show ((win0_0.blk t).view.emb i 0).val = (i 0).val; blk_simp [index0]
  | ⟨1, _⟩ => show ((win0_0.blk t).view.emb i 1).val = (i 1).val; blk_simp [index0]
  | ⟨2, _⟩ => show ((win0_0.blk t).view.emb i 2).val = (i 2).val; blk_simp [index0]
  | ⟨3, _⟩ => show ((win0_0.blk t).view.emb i 3).val = (i 3).val; blk_simp [index0]

theorem cast_block (x : Vec Ideal S8x8x4x128 .fp8e4m3) : out0_1 x = (x : S8x8x4x128.Idx → EReal) := by
  have hz : ∀ a : Fin S8x8x4x128.rank, (![0, 0, 0, 0] : Fin 4 → ℕ) a = 0 := by decide
  have h1 : View.ld (Val := Elt Ideal) x r0_0 = x := View.ld_unit_lit (S := S8x8x4x128) inb_S8x8x4x128_S8x8x4x128_0_0_0_0 x hz
  have h2 : out0_1 x = k0_pay1 (View.ld x r0_0) := View.canon_cons_unit_lit (Val := Elt Ideal) (S := S8x8x4x128) (e := .bf16) inb_S8x8x4x128_S8x8x4x128_0_0_0_0 _ [] hz
  rw [h2, h1]
  rfl

theorem castWeights_eq (c : Dev nD) : (Value.reg_main_v0 m c : S8x8x4x128.Idx → EReal) = codes m c := by
  unfold Value.reg_main_v0
  refine (dats m 0 c).arrAt_eq_of_covers 1 _ (by decide +kernel) fun t hf y => ?_
  blk_simp []
  rw [after0_1]
  refine (congrFun (cast_block _) y).trans ?_
  rw [block_eq]
  refine congrArg (codes m c) (funext fun a => Fin.ext ?_)
  match a with
  | ⟨0, _⟩ => show (y 0).val = ((win0_1.blk t).view.emb y 0).val; blk_simp [index1]
  | ⟨1, _⟩ => show (y 1).val = ((win0_1.blk t).view.emb y 1).val; blk_simp [index1]
  | ⟨2, _⟩ => show (y 2).val = ((win0_1.blk t).view.emb y 2).val; blk_simp [index1]
  | ⟨3, _⟩ => show (y 3).val = ((win0_1.blk t).view.emb y 3).val; blk_simp [index1]

end Cert.ReferenceIdeal.Conv

end
-- ==== Proof.Conv.Equal.lean ====
/-
  Both programs' runs, with their two results as one and the same pair of arrays.
-/
module

public import proofs.«01_k».proof.Proof.Conv.Features
public import proofs.«01_k».proof.Proof.Conv.Reference
public import proofs.«01_k».proof.Proof.Conv.Cast

@[expose] public section

set_option maxRecDepth 16384

noncomputable section

namespace Cert.Conv

open Idealize.ShloMosaic Idealize.ShloMosaic.TcCoe Idealize.SL.Sem

/-- A result array: features of the pixel function `pix` of each sample. -/
def features (pix : ℕ → ℕ → ℕ → ℕ → EReal) (W : (⟨4, ![8, 8, 4, 128]⟩ : Shape).Idx → EReal) (sc bi : (⟨1, ![128]⟩ : Shape).Idx → EReal) :
    (⟨4, ![20, 20, 224, 128]⟩ : Shape).Idx → EReal :=
  fun i => feature W (pix (i 2).val) sc bi (i 0).val (i 1).val (i 3)

/-- An index is its four coordinates. -/
theorem eq_ix4 (i : (⟨4, ![20, 20, 224, 128]⟩ : Shape).Idx) : i = ix4 (i 0) (i 1) (i 2) (i 3) := by
  funext a
  match a with
  | ⟨0, _⟩ => rfl
  | ⟨1, _⟩ => rfl
  | ⟨2, _⟩ => rfl
  | ⟨3, _⟩ => rfl

section Kernel

open Cert.KernelIdeal Cert.KernelIdeal.Gen Cert.KernelIdeal.Conv

variable (m : (ℓ : Loc nD τ sig) → Buf (Elt Ideal) ℓ) (ρ : Dev nD → PrngReg)

theorem kernel_state (c : Dev nD) : stacked (sAt m c) = features (hist (wordsOf m c)) (codes m c) (scaleOf m c) (biasOf m c) := by
  funext i
  exact (congrArg _ (eq_ix4 i)).trans (state_at m c (i 0) (i 1) (i 2) (i 3))

theorem kernel_next (c : Dev nD) : stacked (nAt m c) = features (succ (wordsOf m c)) (codes m c) (scaleOf m c) (biasOf m c) := by
  funext i
  exact (congrArg _ (eq_ix4 i)).trans (next_at m c (i 0) (i 1) (i 2) (i 3))

theorem kernel_run : θ_run defs (onTc (τ := τ) (main (F := Ideal))) ⟨m, fun _ => 0, ρ⟩ (fun r => ∀ c : Dev nD,
      r.2.mem ((c.tc : Thread nD τ).loc main_v57_0) = features (hist (wordsOf m c)) (codes m c) (scaleOf m c) (biasOf m c)
      ∧ r.2.mem ((c.tc : Thread nD τ).loc main_v57_1) = features (succ (wordsOf m c)) (codes m c) (scaleOf m c) (biasOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2 c).1 5).trans ((array_s m c).trans (kernel_state m c)),
      ((h.2 c).1 6).trans ((array_n m c).trans (kernel_next m c)), h.1 c⟩)
    (θ_run_and (frame_of m ρ (dats m) (A_eq m) (run_main m ρ)) (run_main m ρ))

end Kernel

section Reference

open Cert.ReferenceIdeal Cert.ReferenceIdeal.Gen Cert.ReferenceIdeal.Conv

variable (m : (ℓ : Loc nD τ sig) → Buf (Elt Ideal) ℓ) (ρ : Dev nD → PrngReg)

theorem reference_run : θ_run defs (onTc (τ := τ) (main (F := Ideal))) ⟨m, fun _ => 0, ρ⟩ (fun r => ∀ c : Dev nD,
      r.2.mem ((c.tc : Thread nD τ).loc main_v111) = features (hist (m ((c.tc : Thread nD τ).loc main_arg0))) (codes m c)
        (m ((c.tc : Thread nD τ).loc main_arg2)) (m ((c.tc : Thread nD τ).loc main_arg3))
      ∧ r.2.mem ((c.tc : Thread nD τ).loc main_v112) = features (succ (m ((c.tc : Thread nD τ).loc main_arg0))) (codes m c)
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun _ h c => ⟨(h c).1.trans ((Read.val_main_v111_eq (Value.exitV m c)).trans ?_),
    (h c).2.1.trans ((Read.val_main_v112_eq (Value.exitV m c)).trans ?_), (h c).2.2⟩) (Value.run m ρ)
  · rw [Value.exit_main_arg0, Value.exit_main_arg2, Value.exit_main_arg3, Value.exit_main_v0]
    funext i
    refine (congrArg _ (eq_ix4 i)).trans ((state_ref _ _ _ _ (i 0) (i 1) (i 2) (i 3)).trans ?_)
    rw [castWeights_eq]
    rfl
  · rw [Value.exit_main_arg0, Value.exit_main_arg2, Value.exit_main_arg3, Value.exit_main_v0]
    funext i
    refine (congrArg _ (eq_ix4 i)).trans ((next_ref _ _ _ _ (i 0) (i 1) (i 2) (i 3)).trans ?_)
    rw [castWeights_eq]
    rfl

end Reference

end Cert.Conv

end
-- ==== Proof.Frame.Points.lean ====
/-
  The grid's points: which of them is the first in the body's own words, the staging buffers the body is handed at a point,
  and the scratch buffers it keeps between points.

  The statements and proofs are those of `Conv.Points`, here for the program printed before idealization, whose frame is claimed
  on bit patterns.
-/
module

public import proofs.«01_k».proof.Proof.Gen.Kernel.Frame

@[expose] public section

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

/-- The condition of the body's branch, from the grid coordinate. -/
abbrev isFirst (i : grid0.Coords) : Prop :=
  (Scalar.cmpi .ne (Scalar.extui (Scalar.cmpi .eq (BitVec.ofNat 32 (i 0).val) 0#32)) 0#32) = 1#1

/-- A point's coordinate is its number. -/
theorem coords_val (t : Fin cfg0.N) : (grid0.coords t 0).val = t.val := by
  have ht : t.val < 22 := Nat.lt_of_lt_of_eq t.isLt N_0
  have e0 : (grid0.coords t 0).val = t.val / 1 % 22 := Pipeline.Grid.coords_val t 0 (by decide) rfl
  omega

/-- It holds at the first point only. -/
theorem isFirst_iff : ∀ t : Fin cfg0.N, isFirst (grid0.coords t) ↔ t.val = 0 := fun t => by
  have ht : t.val < 22 := Nat.lt_of_lt_of_eq t.isLt N_0
  simp only [isFirst, coords_val]
  word_cmp

/-! ## The buffers the body is handed -/

abbrev ms0_0 (t : Fin cfg0.N) : Memref sig .tc .vmem S896x128 .i32 := win0_0.stage (cfg0.slots t 0)
abbrev ms0_1 (t : Fin cfg0.N) : Memref sig .tc .vmem S256x256 .fp8e4m3 := win0_1.stage (cfg0.slots t 1)
abbrev ms0_2 (t : Fin cfg0.N) : Memref sig .tc .vmem S3x256x256 .fp8e4m3 := win0_2.stage (cfg0.slots t 2)
abbrev ms0_3 (t : Fin cfg0.N) : Memref sig .tc .vmem S1x128 .f32 := win0_3.stage (cfg0.slots t 3)
abbrev ms0_4 (t : Fin cfg0.N) : Memref sig .tc .vmem S1x128 .f32 := win0_4.stage (cfg0.slots t 4)
abbrev ms0_5 (t : Fin cfg0.N) : Memref sig .tc .vmem S1x20x224x128 .bf16 := win0_5.stage (cfg0.slots t 5)
abbrev ms0_6 (t : Fin cfg0.N) : Memref sig .tc .vmem S1x20x224x128 .bf16 := win0_6.stage (cfg0.slots t 6)
abbrev scM0_0 : Memref sig .tc .vmem S3x20x224x128 .bf16 := Memref.whole cc0_scratch0
abbrev scM0_1 : Memref sig .tc .vmem S3x4x224x128 .bf16 := Memref.whole cc0_scratch1
abbrev scM0_2 : Memref sig .tc .vmem S256x256 .bf16 := Memref.whole cc0_scratch2
abbrev scM0_3 : Memref sig .tc .vmem S3x256x256 .bf16 := Memref.whole cc0_scratch3
abbrev scM0_4 : Memref sig .tc .vmem S224x128 .i32 := Memref.whole cc0_scratch4

/-- What a core holds besides the windows before the first point and after the last: the scratch buffers at some contents
    and the generator register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)
          ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Frame

end
-- ==== Proof.Frame.Tiles.lean ====
/-
  What one grid point of the convolution kernel computes, as plain functions of what it reads: the pixel rows it builds
  from a band of words, the two scratch arrays after the build, and the two result blocks it writes.

  The statements and proofs are those of `Conv.Tiles`, here for the program printed before idealization, whose frame is claimed
  on bit patterns.
-/
module

public import proofs.«01_k».proof.Proof.Gen.Kernel.Skeleton
public import Idealize.ShloMosaic.Lib.Pipeline.FrameBody
public import Idealize.ShloMosaic.Lib.WholeRead
public import Idealize.ShloMosaic.Lib.ValueLayout
public import Idealize.ShloMosaic.Lib.Pointwise

@[expose] public section

noncomputable section

namespace Cert.Kernel.Frame

open Idealize.ShloMosaic Cert.Kernel.Gen

variable {F : FTy → Type} [FloatOps F]

/-! ## The pixel rows of a band -/

/-- The words of tile `o % 4` of 112 samples, the first at sample `o / 4`: rows `o`, `o + 4`, `o + 8`, … of the band. -/
def rows (x0 : Vec F S896x128 .i32) (o : ℕ) : Vec F S112x128 .i32 :=
  fun y => x0 (ix2 ⟨(o + 4 * (y 0).val) % 896, Nat.mod_lt _ (by decide)⟩ ⟨(y 1).val, (y 1).isLt⟩)

/-- The bytes of word tiles 0 to 2 as numbers, for the 112 samples from `j0` on: [byte, sample]. -/
def cols3 (x0 : Vec F S896x128 .i32) (j0 : ℕ) : FVec F S1536x112 .bf16 :=
  k0_pay10 (rows x0 (4 * j0)) (rows x0 (4 * j0 + 1)) (rows x0 (4 * j0 + 2))

/-- The bytes of word tile 3, which holds the newest frame. -/
def cols1 (x0 : Vec F S896x128 .i32) (j0 : ℕ) : FVec F S512x112 .bf16 := k0_pay35 (rows x0 (4 * j0 + 3))

/-- Windows of 128 bytes, one every `q` bytes, of the columns `cat`: at (slab, window, sample, byte), for any slab. -/
def windows {N : ℕ} (R q : ℕ) [NeZero R] (cat : ℕ → FVec F ⟨2, ![R, 112]⟩ .bf16) : (⟨4, ![3, N, 224, 128]⟩ : Shape).Idx → F .bf16 :=
  fun y => cat (112 * ((y 2).val / 112)) (ix2 (Fin.ofNat R (q * (y 1).val + (y 3).val)) (Fin.ofNat 112 (y 2).val))

/-- A scratch array after the build at point `n`: slab `n % 3` holds the windows of the band, the others what they held. -/
def slabSet {N : ℕ} (n : ℕ) (G Z : (⟨4, ![3, N, 224, 128]⟩ : Shape).Idx → F .bf16) : (⟨4, ![3, N, 224, 128]⟩ : Shape).Idx → F .bf16 :=
  fun y => if (y 0).val = n % 3 then G y else Z y

/-- The first scratch array after the build at point `n` from the band's words `x0`. -/
def zNext (n : ℕ) (x0 : Vec F S896x128 .i32) (Z : Vec F S3x20x224x128 .bf16) : Vec F S3x20x224x128 .bf16 :=
  slabSet n (windows 1536 64 (cols3 x0)) Z

/-- The second. -/
def z4Next (n : ℕ) (x0 : Vec F S896x128 .i32) (Z : Vec F S3x4x224x128 .bf16) : Vec F S3x4x224x128 .bf16 :=
  slabSet n (windows 512 96 (cols1 x0)) Z

/-- Per sample, all ones where the episode goes on and zero where it ended. -/
def gateOf (x0 : Vec F S896x128 .i32) : Vec F S224x128 .i32 :=
  k0_pay6 fun y => x0 (ix2 ⟨(3 + 4 * (y 0).val) % 896, Nat.mod_lt _ (by decide)⟩ ⟨(y 1).val, (y 1).isLt⟩)

/-! ## The result blocks -/

/-- Window `w` of slab `s` of a scratch array. -/
def slab {N : ℕ} [NeZero N] (Z : (⟨4, ![3, N, 224, 128]⟩ : Shape).Idx → F .bf16) (s w : ℕ) : Vec F S1x1x224x128 .bf16 :=
  fun x => Z (ix4 (Fin.ofNat 3 s) (Fin.ofNat N w) ⟨(x 2).val, (x 2).isLt⟩ ⟨(x 3).val, (x 3).isLt⟩)

/-- Matrix `v` of the newest frame's weights. -/
def wbAt (Wb : Vec F S3x256x256 .bf16) (v : ℕ) : Vec F S1x256x256 .bf16 :=
  fun x => Wb (ix3 (Fin.ofNat 3 v) ⟨(x 1).val, (x 1).isLt⟩ ⟨(x 2).val, (x 2).isLt⟩)

/-- The block of features at the states, [1, output column, sample, channel], from the scratch array after the build. -/
def sBlock (n : ℕ) (Z : Vec F S3x20x224x128 .bf16) (Wa : Vec F S256x256 .bf16) (sc bi : FVec F S1x128 .f32) : Vec F S1x20x224x128 .bf16 :=
  fun y => k0_pay86 sc bi (slab Z (n + 1) (y 1).val) (slab Z (n + 2) (y 1).val) Wa (ix4 0 0 ⟨(y 2).val, (y 2).isLt⟩ ⟨(y 3).val, (y 3).isLt⟩)

/-- The product with the newest frame's weights for the pair of output columns `p`. -/
def lastProd (n : ℕ) (Z4 : Vec F S3x4x224x128 .bf16) (Wb : Vec F S3x256x256 .bf16) (p : ℕ) : FVec F S224x256 .f32 :=
  k0_pay72 (slab Z4 (n + 1) (p / 3)) (slab Z4 (n + 2) (p / 3)) (wbAt Wb (p % 3))

/-- The block of features at the successor states. -/
def nBlock (n : ℕ) (Z : Vec F S3x20x224x128 .bf16) (Z4 : Vec F S3x4x224x128 .bf16) (Wa : Vec F S256x256 .bf16) (Wb : Vec F S3x256x256 .bf16)
    (G : Vec F S224x128 .i32) (sc bi : FVec F S1x128 .f32) : Vec F S1x20x224x128 .bf16 :=
  fun y =>
    (if (y 1).val % 2 = 0 then
      k0_pay76 sc bi (lastProd n Z4 Wb ((y 1).val / 2)) (k0_pay73 (slab Z (n + 1) (y 1).val) (slab Z (n + 2) (y 1).val) Wa) G
    else
      k0_pay81 sc bi (lastProd n Z4 Wb ((y 1).val / 2)) (k0_pay73 (slab Z (n + 1) (y 1).val) (slab Z (n + 2) (y 1).val) Wa) G)
      (ix4 0 0 ⟨(y 2).val, (y 2).isLt⟩ ⟨(y 3).val, (y 3).isLt⟩)

end Cert.Kernel.Frame

end
-- ==== Proof.Frame.Stores.lean ====
/-
  An array after a list of stores, each of which holds one function on its box: what it reads at every place. Then the two
  kinds of stores the kernel's body makes into its scratch arrays and into its result blocks, and its loads from them.

  The statements and proofs are those of `Conv.Stores`, here for the program printed before idealization, whose frame is claimed
  on bit patterns.
-/
module

public import Idealize.ShloMosaic.Lib.VecWindow
public import proofs.«01_k».proof.Proof.Frame.Tiles

@[expose] public section

noncomputable section

namespace Cert.Kernel.Frame

open Idealize.ShloMosaic Cert.Kernel.Gen

variable {F : FTy → Type} [FloatOps F]

/-- A store whose box is the places satisfying `P` and whose payload is the function `G` there. -/
structure Holds {S : Shape} {e : EltTy} (G : S.Idx → Elt F e) (P : S.Idx → Prop) (p : View.Piece (Elt F) S e) : Prop where
  mem : ∀ y, y ∈ p.1.set ↔ P y
  val : ∀ x : p.1.shape.Idx, p.2 x = G (p.1.emb x)

/-- After a list of such stores an array reads `G` wherever one of the boxes lies and what it held elsewhere. -/
theorem read_writes_holds {sig : RefSig} {κ : Kind} {sp : Space} {S : Shape} {e : EltTy} {ι : Type} (v : View sig κ sp S e)
    (f : v.ty.Contents (Elt F)) (G : S.Idx → Elt F e) (P : ι → S.Idx → Prop) (L : List (View.Piece (Elt F) S e)) (K : List ι)
    (h : List.Forall₂ (fun p k => Holds G (P k) p) L K) (y : S.Idx) :
    ((∃ k ∈ K, P k y) → v.read (Elt F) (v.writes (Elt F) f L) y = G y)
      ∧ ((∀ k ∈ K, ¬ P k y) → v.read (Elt F) (v.writes (Elt F) f L) y = v.read (Elt F) f y) := by
  have hL : (∀ q ∈ L, ∀ x : q.1.shape.Idx, q.2 x = G (q.1.emb x)) ∧ (∀ q ∈ L, ∃ k ∈ K, ∀ y, y ∈ q.1.set ↔ P k y)
      ∧ (∀ k ∈ K, ∃ q ∈ L, ∀ y, y ∈ q.1.set ↔ P k y) := by
    clear y
    induction h with
    | nil => simp
    | cons hd _ ih =>
      obtain ⟨i1, i2, i3⟩ := ih
      refine ⟨List.forall_mem_cons.2 ⟨hd.val, i1⟩, List.forall_mem_cons.2 ⟨⟨_, List.mem_cons_self, hd.mem⟩, ?_⟩,
        List.forall_mem_cons.2 ⟨⟨_, List.mem_cons_self, hd.mem⟩, ?_⟩⟩
      · intro q hq; obtain ⟨k, hk, e⟩ := i2 q hq; exact ⟨k, List.mem_cons_of_mem _ hk, e⟩
      · intro k hk; obtain ⟨q, hq, e⟩ := i3 k hk; exact ⟨q, List.mem_cons_of_mem _ hq, e⟩
  obtain ⟨h1, h2, h3⟩ := hL
  refine ⟨fun ⟨k, hk, hy⟩ => ?_, fun hn => ?_⟩
  · obtain ⟨q, hq, e⟩ := h3 k hk
    exact View.read_writes_apply_of_pieces v f G L h1 y ⟨q, hq, (e y).2 hy⟩
  · refine View.read_writes_apply_of_forall_not_mem v f y L fun q hq hm => ?_
    obtain ⟨k, hk, e⟩ := h2 q hq
    exact hn k hk ((e y).1 hm)

/-! ## The stores that build the scratch arrays -/

/-- The box of 112 samples from `k.2` on, in window `k.1` of slab `n % 3`. -/
def boxAt {N : ℕ} (n : ℕ) (k : ℕ × ℕ) (y : (⟨4, ![3, N, 224, 128]⟩ : Shape).Idx) : Prop :=
  (y 0).val = n % 3 ∧ (y 1).val = k.1 ∧ k.2 ≤ (y 2).val ∧ (y 2).val < k.2 + 112

/-- The boxes of `m` windows in the order the stores are listed, the last first: samples 112 on, then samples 0 on. -/
def boxKeys (m : ℕ) : List (ℕ × ℕ) := (List.range m).reverse.map (·, 112) ++ (List.range m).reverse.map (·, 0)

/-- A store of 128 bytes of 112 samples, turned to [sample, byte], holds the windows' function. -/
theorem holds_window {N R q : ℕ} [NeZero R] (cat : ℕ → FVec F ⟨2, ![R, 112]⟩ .bf16) (n w j0 o : ℕ) (off : Fin 4 → ℕ)
    (hoff : off = ![n % 3, w, j0, 0]) (inb : ∀ a, off a + S1x1x112x128.size a ≤ (⟨4, ![3, N, 224, 128]⟩ : Shape).size a)
    (c : FVec F ⟨2, ![R, 112]⟩ .bf16) (hc : c = cat j0) (ho : o = q * w) (hj : j0 = 0 ∨ j0 = 112)
    (h1 : (⟨2, ![R, 112]⟩ : Shape).Slices ![o, 0] S128x112) (h2 : S128x112.Transposes [1, 0] S112x128) (h3 : S112x128.ShapeCasts S1x1x112x128) :
    Holds (windows R q cat) (boxAt n (w, j0))
      (⟨Rect.unit (s := ⟨4, ![3, N, 224, 128]⟩) off S1x1x112x128.size inb,
        shapeCast S1x1x112x128 (transpose S112x128 [1, 0] (extractStridedSlice S128x112 ![o, 0] c h1) h2) h3⟩ : View.Piece (Elt F) ⟨4, ![3, N, 224, 128]⟩ .bf16) := by
  subst hoff hc ho
  constructor
  · intro y
    show y ∈ (Rect.unit (s := ⟨4, ![3, N, 224, 128]⟩) ![n % 3, w, j0, 0] S1x1x112x128.size inb).set ↔ _
    rw [Rect.mem_set_unit]
    unfold boxAt
    have y3 : (y 3).val < 128 := (y 3).isLt
    constructor
    · intro h
      have h0 := h 0; have h1 := h 1; have h2 := h 2
      simp at h0 h1 h2
      refine ⟨by omega, by omega, by omega, by omega⟩
    · rintro ⟨h0, h1, h2, h3⟩ a
      match a with
      | ⟨0, _⟩ => exact ⟨by show n % 3 ≤ (y 0).val; omega, by show (y 0).val < n % 3 + 1; omega⟩
      | ⟨1, _⟩ => exact ⟨by show w ≤ (y 1).val; simp at h1; omega, by show (y 1).val < w + 1; simp at h1; omega⟩
      | ⟨2, _⟩ => exact ⟨h2, h3⟩
      | ⟨3, _⟩ => exact ⟨Nat.zero_le _, by show (y 3).val < 0 + 128; omega⟩
  · intro (x : S1x1x112x128.Idx)
    have x2 : (x 2).val < 112 := (x 2).isLt
    have x3 : (x 3).val < 128 := (x 3).isLt
    have e1 : ((Rect.unit (s := ⟨4, ![3, N, 224, 128]⟩) ![n % 3, w, j0, 0] S1x1x112x128.size inb).emb x 1).val = w := by
      rw [Rect.emb_apply]; have : (x 1).val < 1 := (x 1).isLt; simp; omega
    have e2 : ((Rect.unit (s := ⟨4, ![3, N, 224, 128]⟩) ![n % 3, w, j0, 0] S1x1x112x128.size inb).emb x 2).val = j0 + (x 2).val := by
      rw [Rect.emb_apply]; simp
    have e3 : ((Rect.unit (s := ⟨4, ![3, N, 224, 128]⟩) ![n % 3, w, j0, 0] S1x1x112x128.size inb).emb x 3).val = (x 3).val := by
      rw [Rect.emb_apply]; simp
    have hR : q * w + 128 ≤ R := h1.2 0
    show shapeCast S1x1x112x128 (transpose S112x128 [1, 0] (extractStridedSlice S128x112 ![q * w, 0] (cat j0) h1) h2) h3 x
      = windows R q cat ((Rect.unit (s := ⟨4, ![3, N, 224, 128]⟩) ![n % 3, w, j0, 0] S1x1x112x128.size inb).emb x)
    unfold windows
    rw [e1, e2, e3]
    have ej : 112 * ((j0 + (x 2).val) / 112) = j0 := by omega
    rw [ej]
    refine (shapeCast_apply _ h3 x (ix2 ⟨(x 2).val, x2⟩ ⟨(x 3).val, x3⟩) ?_).trans ?_
    · rw [Shape.rowMajor_val_four, Shape.rowMajor_val_two]
      have x0 : (x 0).val < 1 := (x 0).isLt
      have x1 : (x 1).val < 1 := (x 1).isLt
      show (x 2).val * 128 + (x 3).val = (((x 0).val * 1 + (x 1).val) * 112 + (x 2).val) * 128 + (x 3).val
      omega
    refine (transpose_apply _ _ h2 _ (ix2 ⟨(x 3).val, x3⟩ ⟨(x 2).val, x2⟩) fun b => match b with | ⟨0, _⟩ => rfl | ⟨1, _⟩ => rfl).trans ?_
    refine extractStridedSlice_apply _ _ _ _ _ fun a => match a with | ⟨0, _⟩ => ?_ | ⟨1, _⟩ => ?_
    · show (q * w + (x 3).val) % R = q * w + (x 3).val
      exact Nat.mod_eq_of_lt (by omega)
    · show (j0 + (x 2).val) % 112 = 0 + (x 2).val
      omega

/-- Every window's two boxes are among the keys. -/
theorem mem_boxKeys {m w j : ℕ} (hw : w < m) (hj : j < 224) : (w, 112 * (j / 112)) ∈ boxKeys m := by
  unfold boxKeys
  simp only [List.mem_append, List.mem_map, List.mem_reverse, List.mem_range, Prod.mk.injEq]
  by_cases h : j < 112
  · right; exact ⟨w, hw, rfl, by omega⟩
  · left; exact ⟨w, hw, rfl, by omega⟩

/-- The keys of twenty windows and of four, written out. -/
theorem boxKeys_20 : boxKeys 20 = [(19, 112), (18, 112), (17, 112), (16, 112), (15, 112), (14, 112), (13, 112), (12, 112), (11, 112), (10, 112), (9, 112), (8, 112), (7, 112), (6, 112), (5, 112), (4, 112), (3, 112), (2, 112), (1, 112), (0, 112), (19, 0), (18, 0), (17, 0), (16, 0), (15, 0), (14, 0), (13, 0), (12, 0), (11, 0), (10, 0), (9, 0), (8, 0), (7, 0), (6, 0), (5, 0), (4, 0), (3, 0), (2, 0), (1, 0), (0, 0)] := rfl
theorem boxKeys_4 : boxKeys 4 = [(3, 112), (2, 112), (1, 112), (0, 112), (3, 0), (2, 0), (1, 0), (0, 0)] := rfl
theorem reverse_range_20 : (List.range 20).reverse = [19, 18, 17, 16, 15, 14, 13, 12, 11, 10, 9, 8, 7, 6, 5, 4, 3, 2, 1, 0] := rfl

/-- After the stores that build one slab of a scratch array, it reads `slabSet`. -/
theorem read_writes_windows {sig : RefSig} {κ : Kind} {sp : Space} {N R q : ℕ} [NeZero R] (v : View sig κ sp (⟨4, ![3, N, 224, 128]⟩ : Shape) .bf16)
    (f : v.ty.Contents (Elt F)) (cat : ℕ → FVec F ⟨2, ![R, 112]⟩ .bf16) (n : ℕ) (L : List (View.Piece (Elt F) ⟨4, ![3, N, 224, 128]⟩ .bf16))
    (h : List.Forall₂ (fun p k => Holds (windows R q cat) (boxAt n k) p) L (boxKeys N)) :
    v.read (Elt F) (v.writes (Elt F) f L) = slabSet n (windows R q cat) (v.read (Elt F) f) := by
  funext y
  obtain ⟨h1, h2⟩ := read_writes_holds v f _ _ L _ h y
  unfold slabSet
  have y1 : (y 1).val < N := (y 1).isLt
  have y2 : (y 2).val < 224 := (y 2).isLt
  by_cases hy : (y 0).val = n % 3
  · rw [if_pos hy]
    exact h1 ⟨_, mem_boxKeys y1 y2, hy, rfl, by show 112 * ((y 2).val / 112) ≤ (y 2).val; omega, by show (y 2).val < 112 * ((y 2).val / 112) + 112; omega⟩
  · rw [if_neg hy]
    exact h2 fun k _ hk => hy hk.1

/-! ## The stores that write the result blocks -/

/-- A list of stores whose first one in time is `p0`, the later ones standing in a relation to keys. -/
theorem split_first {α β : Type*} {R : α → β → Prop} {p0 : α} : ∀ (ks : List β) (L : List α),
    List.Forall₂ (fun p (k : Option β) => k.elim (p = p0) (R p)) L (ks.map some ++ [none]) → ∃ L', L = L' ++ [p0] ∧ List.Forall₂ R L' ks
  | [], _, .cons h .nil => ⟨[], by rw [show _ = p0 from h]; rfl, .nil⟩
  | _ :: ks, _, .cons h t => by
    obtain ⟨L', rfl, h'⟩ := split_first ks _ t
    exact ⟨_ :: L', rfl, .cons h h'⟩

/-- The same where a store of the whole buffer comes before the stores that build the slab. -/
theorem read_writes_windows_over {N R q : ℕ} [NeZero N] [NeZero R] {sig : RefSig} {κ : Kind} {sp : Space}
    (v : View sig κ sp ⟨4, ![3, N, 224, 128]⟩ .bf16) (f : v.ty.Contents (Elt F))
    (cat : ℕ → FVec F ⟨2, ![R, 112]⟩ .bf16) (n : ℕ) (L : List (View.Piece (Elt F) ⟨4, ![3, N, 224, 128]⟩ .bf16))
    (z : FVec F ⟨4, ![3, N, 224, 128]⟩ .bf16) (off : Fin 4 → ℕ)
    (inb : ∀ a, off a + (⟨4, ![3, N, 224, 128]⟩ : Shape).size a ≤ (⟨4, ![3, N, 224, 128]⟩ : Shape).size a)
    (h : List.Forall₂ (fun p (k : Option (ℕ × ℕ)) => k.elim (p = ⟨Rect.unit off (⟨4, ![3, N, 224, 128]⟩ : Shape).size inb, z⟩)
      (fun k => Holds (windows R q cat) (boxAt n k) p)) L ((boxKeys N).map some ++ [none])) :
    v.read (Elt F) (v.writes (Elt F) f L) = slabSet n (windows R q cat) z := by
  obtain ⟨L', rfl, h'⟩ := split_first (R := fun p k => Holds (windows R q cat) (boxAt n k) p) (p0 := ⟨Rect.unit off (⟨4, ![3, N, 224, 128]⟩ : Shape).size inb, z⟩) (boxKeys N) L h
  rw [View.writes_append, read_writes_windows v _ cat n L' h', View.read_writes_full]

/-- A store of one output column of a result block holds the block's function. -/
theorem holds_column (G : S1x20x224x128.Idx → F .bf16) (w : ℕ) (hw : w < 20)
    (inb : ∀ a, (![0, w, 0, 0] : Fin 4 → ℕ) a + S1x1x224x128.size a ≤ S1x20x224x128.size a) (p : Vec F S1x1x224x128 .bf16)
    (hp : ∀ (j : Fin 224) (d : Fin 128), p (ix4 0 0 j d) = G (ix4 0 ⟨w, hw⟩ j d)) :
    Holds G (fun y => (y 1).val = w) (⟨Rect.unit (s := S1x20x224x128) ![0, w, 0, 0] S1x1x224x128.size inb, p⟩ : View.Piece (Elt F) S1x20x224x128 .bf16) := by
  constructor
  · intro y
    show y ∈ (Rect.unit (s := S1x20x224x128) ![0, w, 0, 0] S1x1x224x128.size inb).set ↔ _
    rw [Rect.mem_set_unit]
    have y0 : (y 0).val < 1 := (y 0).isLt
    have y2 : (y 2).val < 224 := (y 2).isLt
    have y3 : (y 3).val < 128 := (y 3).isLt
    constructor
    · intro h
      have h1 := h 1
      simp at h1
      show (y 1).val = w
      omega
    · intro h1 a
      match a with
      | ⟨0, _⟩ => exact ⟨Nat.zero_le _, by show (y 0).val < 0 + 1; omega⟩
      | ⟨1, _⟩ => exact ⟨by show w ≤ (y 1).val; omega, by show (y 1).val < w + 1; omega⟩
      | ⟨2, _⟩ => exact ⟨Nat.zero_le _, by show (y 2).val < 0 + 224; omega⟩
      | ⟨3, _⟩ => exact ⟨Nat.zero_le _, by show (y 3).val < 0 + 128; omega⟩
  · intro (x : S1x1x224x128.Idx)
    have x0 : (x 0).val < 1 := (x 0).isLt
    have x1 : (x 1).val < 1 := (x 1).isLt
    have ex : x = ix4 (n0 := 1) (n1 := 1) (n2 := 224) (n3 := 128) 0 0 (x 2) (x 3) := by
      funext a
      match a with
      | ⟨0, _⟩ => exact Fin.ext (by show (x 0).val = 0; omega)
      | ⟨1, _⟩ => exact Fin.ext (by show (x 1).val = 0; omega)
      | ⟨2, _⟩ => rfl
      | ⟨3, _⟩ => rfl
    refine ((congrArg p ex).trans (hp _ _)).trans (congrArg G (funext fun a => Fin.ext ?_))
    rw [Rect.emb_apply]
    match a with
    | ⟨0, _⟩ => show 0 = 0 + 1 * (x 0).val; omega
    | ⟨1, _⟩ => show w = w + 1 * (x 1).val; omega
    | ⟨2, _⟩ => show (x 2).val = 0 + 1 * (x 2).val; omega
    | ⟨3, _⟩ => show (x 3).val = 0 + 1 * (x 3).val; omega

/-- After the stores of all twenty output columns a result block reads its function. -/
theorem read_writes_columns {sig : RefSig} {κ : Kind} {sp : Space} (v : View sig κ sp S1x20x224x128 .bf16) (f : v.ty.Contents (Elt F))
    (G : S1x20x224x128.Idx → F .bf16) (L : List (View.Piece (Elt F) S1x20x224x128 .bf16))
    (h : List.Forall₂ (fun p (w : ℕ) => Holds G (fun y => (y 1).val = w) p) L (List.range 20).reverse) :
    v.read (Elt F) (v.writes (Elt F) f L) = G := by
  funext y
  refine (read_writes_holds v f G (fun (w : ℕ) y => (y 1).val = w) L _ h y).1 ⟨(y 1).val, ?_, rfl⟩
  rw [List.mem_reverse, List.mem_range]
  exact (y 1).isLt

/-! ## The loads -/

variable {sig : RefSig} {κ : Kind} {sp : Space}

/-- A strided load of 112 rows of the band's words. -/
theorem load_rows {m : Memref sig κ sp S896x128 .i32} (h : m.IsWhole) (x0 : Vec F S896x128 .i32) (o : ℕ) (inb) :
    m.view.readAt (Elt F) (⟨![o, 0], S112x128.size, ![4, 1], inb⟩ : LoadRect S896x128) (h.unread x0) = rows x0 o := by
  funext y
  rw [h.readAt_unread]
  unfold rows
  have hy : (y 0).val < 112 := (y 0).isLt
  refine congrArg x0 (funext fun a => Fin.ext ?_)
  have h0 := inb 0
  match a with
  | ⟨0, _⟩ =>
    show o + 4 * (y 0).val = (o + 4 * (y 0).val) % 896
    refine (Nat.mod_eq_of_lt ?_).symm
    have : o + 4 * (112 - 1) < 896 := by simpa using h0
    omega
  | ⟨1, _⟩ => show 0 + 1 * (y 1).val = (y 1).val; omega

/-- The bytes of word tiles 0 to 2 from the loads of their rows. -/
theorem load_cols3 {m : Memref sig κ sp S896x128 .i32} (h : m.IsWhole) (x0 : Vec F S896x128 .i32) (j0 o1 o2 o3 : ℕ) (i1 i2 i3)
    (e1 : o1 = 4 * j0) (e2 : o2 = 4 * j0 + 1) (e3 : o3 = 4 * j0 + 2) :
    k0_pay10 (m.view.readAt (Elt F) (⟨![o1, 0], S112x128.size, ![4, 1], i1⟩ : LoadRect S896x128) (h.unread x0))
      (m.view.readAt (Elt F) (⟨![o2, 0], S112x128.size, ![4, 1], i2⟩ : LoadRect S896x128) (h.unread x0))
      (m.view.readAt (Elt F) (⟨![o3, 0], S112x128.size, ![4, 1], i3⟩ : LoadRect S896x128) (h.unread x0)) = cols3 x0 j0 := by
  subst e1 e2 e3
  rw [load_rows, load_rows, load_rows]; rfl

/-- The bytes of word tile 3 from the load of its rows. -/
theorem load_cols1 {m : Memref sig κ sp S896x128 .i32} (h : m.IsWhole) (x0 : Vec F S896x128 .i32) (j0 o : ℕ) (i1) (e1 : o = 4 * j0 + 3) :
    k0_pay35 (m.view.readAt (Elt F) (⟨![o, 0], S112x128.size, ![4, 1], i1⟩ : LoadRect S896x128) (h.unread x0)) = cols1 x0 j0 := by
  subst e1
  rw [load_rows]; rfl

/-- A load of one window of one slab of a scratch array. -/
theorem load_slab {N : ℕ} [NeZero N] (v : View sig κ sp (⟨4, ![3, N, 224, 128]⟩ : Shape) .bf16) (f : v.ty.Contents (Elt F))
    (Z : (⟨4, ![3, N, 224, 128]⟩ : Shape).Idx → F .bf16) (hZ : v.read (Elt F) f = Z) (s w : ℕ) (off : Fin 4 → ℕ) (hoff : off = ![s % 3, w, 0, 0]) (inb) :
    v.readAt (Elt F) (Rect.unit (s := ⟨4, ![3, N, 224, 128]⟩) off S1x1x224x128.size inb).toLoadRect f = slab Z s w := by
  subst hoff hZ
  funext x
  have x0 : (x 0).val < 1 := (x 0).isLt
  have x1 : (x 1).val < 1 := (x 1).isLt
  have hw : w + 1 ≤ N := inb 1
  rw [View.readAt_apply]
  unfold slab
  refine congrArg (v.read (Elt F) f) (funext fun a => Fin.ext ?_)
  match a with
  | ⟨0, _⟩ => show s % 3 + 1 * (x 0).val = s % 3; omega
  | ⟨1, _⟩ =>
    have e : w % N = w := Nat.mod_eq_of_lt hw
    show w + 1 * (x 1).val = w % N
    omega
  | ⟨2, _⟩ => show 0 + 1 * (x 2).val = (x 2).val; omega
  | ⟨3, _⟩ => show 0 + 1 * (x 3).val = (x 3).val; omega

/-- A load of one of the newest frame's matrices. -/
theorem load_wb (v : View sig κ sp S3x256x256 .bf16) (f : v.ty.Contents (Elt F)) (W : Vec F S3x256x256 .bf16) (hW : v.read (Elt F) f = W) (u : ℕ) (inb) :
    v.readAt (Elt F) (Rect.unit (s := S3x256x256) ![u, 0, 0] S1x256x256.size inb).toLoadRect f = wbAt W u := by
  subst hW
  funext x
  have x0 : (x 0).val < 1 := (x 0).isLt
  have hu : u + 1 ≤ 3 := inb 0
  rw [View.readAt_apply]
  unfold wbAt
  refine congrArg (v.read (Elt F) f) (funext fun a => Fin.ext ?_)
  match a with
  | ⟨0, _⟩ => show u + 1 * (x 0).val = u % 3; omega
  | ⟨1, _⟩ => show 0 + 1 * (x 1).val = (x 1).val; omega
  | ⟨2, _⟩ => show 0 + 1 * (x 2).val = (x 2).val; omega

/-- A load of a whole matrix. -/
theorem load_whole2 {e : EltTy} {a b : ℕ} (v : View sig κ sp (⟨2, ![a, b]⟩ : Shape) e) (f : v.ty.Contents (Elt F)) (W : (⟨2, ![a, b]⟩ : Shape).Idx → Elt F e)
    (hW : v.read (Elt F) f = W) (inb) :
    v.readAt (Elt F) (Rect.unit (s := ⟨2, ![a, b]⟩) ![0, 0] (⟨2, ![a, b]⟩ : Shape).size inb).toLoadRect f = W := by
  subst hW
  funext x
  rw [View.readAt_apply]
  refine congrArg (v.read (Elt F) f) (funext fun c => Fin.ext ?_)
  match c with
  | ⟨0, _⟩ => show 0 + 1 * (x 0).val = (x 0).val; omega
  | ⟨1, _⟩ => show 0 + 1 * (x 1).val = (x 1).val; omega

/-- The load of a whole three-axis buffer. -/
theorem load_whole3 {e : EltTy} (v : View sig κ sp S3x256x256 e) (f : v.ty.Contents (Elt F)) (W : S3x256x256.Idx → Elt F e)
    (hW : v.read (Elt F) f = W) (inb) :
    v.readAt (Elt F) (Rect.unit (s := S3x256x256) ![0, 0, 0] S3x256x256.size inb).toLoadRect f = W :=
  (View.readAt_full v f inb).trans hW

/-- The gate from the load of the words that carry the flags. -/
theorem load_gate {m : Memref sig κ sp S896x128 .i32} (h : m.IsWhole) (x0 : Vec F S896x128 .i32) (o : ℕ) (inb) (e : o = 3) :
    k0_pay6 (m.view.readAt (Elt F) (⟨![o, 0], S224x128.size, ![4, 1], inb⟩ : LoadRect S896x128) (h.unread x0)) = gateOf x0 := by
  subst e
  unfold gateOf
  refine congrArg k0_pay6 ?_
  funext y
  rw [h.readAt_unread]
  have hy : (y 0).val < 224 := (y 0).isLt
  refine congrArg x0 (funext fun a => Fin.ext ?_)
  match a with
  | ⟨0, _⟩ =>
    show 3 + 4 * (y 0).val = (3 + 4 * (y 0).val) % 896
    omega
  | ⟨1, _⟩ =>
    show 0 + 1 * (y 1).val = (y 1).val
    omega

end Cert.Kernel.Frame

end
-- ==== Proof.Frame.Columns.lean ====
/-
  The stores of one output column of the two result blocks, as the body spells them from its loads: each holds the block's
  function on that column.

  The statements and proofs are those of `Conv.Columns`, here for the program printed before idealization, whose frame is claimed
  on bit patterns.
-/
module

public import proofs.«01_k».proof.Proof.Frame.Stores

@[expose] public section

noncomputable section

namespace Cert.Kernel.Frame

open Idealize.ShloMosaic Cert.Kernel.Gen

variable {F : FTy → Type} [FloatOps F] {sig : RefSig} {κ : Kind} {sp : Space}

/-- The load of window `w` of slab `s % 3` spelt with its offsets. -/
abbrev ldSlab {N : ℕ} (v : View sig κ sp (⟨4, ![3, N, 224, 128]⟩ : Shape) .bf16) (f : v.ty.Contents (Elt F)) (off : Fin 4 → ℕ)
    (inb : ∀ a, off a + S1x1x224x128.size a ≤ (⟨4, ![3, N, 224, 128]⟩ : Shape).size a) : Vec F S1x1x224x128 .bf16 :=
  v.readAt (Elt F) (Rect.unit (s := ⟨4, ![3, N, 224, 128]⟩) off S1x1x224x128.size inb).toLoadRect f

/-- The load of a whole matrix. -/
abbrev ldMat {a b : ℕ} {e : EltTy} (v : View sig κ sp (⟨2, ![a, b]⟩ : Shape) e) (f : v.ty.Contents (Elt F))
    (inb : ∀ c, (![0, 0] : Fin 2 → ℕ) c + (⟨2, ![a, b]⟩ : Shape).size c ≤ (⟨2, ![a, b]⟩ : Shape).size c) : (⟨2, ![a, b]⟩ : Shape).Idx → Elt F e :=
  v.readAt (Elt F) (Rect.unit (s := ⟨2, ![a, b]⟩) ![0, 0] (⟨2, ![a, b]⟩ : Shape).size inb).toLoadRect f

/-- The load of one of the newest frame's matrices. -/
abbrev ldWb (v : View sig κ sp S3x256x256 .bf16) (f : v.ty.Contents (Elt F)) (u : ℕ)
    (inb : ∀ c, (![u, 0, 0] : Fin 3 → ℕ) c + S1x256x256.size c ≤ S3x256x256.size c) : Vec F S1x256x256 .bf16 :=
  v.readAt (Elt F) (Rect.unit (s := S3x256x256) ![u, 0, 0] S1x256x256.size inb).toLoadRect f

section
variable (n w : ℕ) (hw : w < 20)
  (v8 : View sig κ sp S3x20x224x128 .bf16) (f8 : v8.ty.Contents (Elt F)) (Z : Vec F S3x20x224x128 .bf16) (h8 : v8.read (Elt F) f8 = Z)
  (v10 : View sig κ sp S256x256 .bf16) (f10 : v10.ty.Contents (Elt F)) (Wa : Vec F S256x256 .bf16) (h10 : v10.read (Elt F) f10 = Wa)
  (v4 : View sig κ sp S1x128 .f32) (f4 : v4.ty.Contents (Elt F)) (x3 : Vec F S1x128 .f32) (h4 : v4.read (Elt F) f4 = x3)
  (v5 : View sig κ sp S1x128 .f32) (f5 : v5.ty.Contents (Elt F)) (x4 : Vec F S1x128 .f32) (h5 : v5.read (Elt F) f5 = x4)
  (o1 o2 : Fin 4 → ℕ) (ho1 : o1 = ![(n + 1) % 3, w, 0, 0]) (ho2 : o2 = ![(n + 2) % 3, w, 0, 0]) (i1 i2 inb ia i4 i5)

include hw h8 h10 h4 h5 ho1 ho2 in
/-- One column of the block of features at the states. -/
theorem holds_s :
    Holds (sBlock n Z Wa (k0_pay8 x3) (k0_pay9 x4)) (fun y => (y 1).val = w)
      (⟨Rect.unit (s := S1x20x224x128) ![0, w, 0, 0] S1x1x224x128.size inb,
        k0_pay86 (k0_pay8 (ldMat v4 f4 i4)) (k0_pay9 (ldMat v5 f5 i5)) (ldSlab v8 f8 o1 i1) (ldSlab v8 f8 o2 i2) (ldMat v10 f10 ia)⟩ : View.Piece (Elt F) S1x20x224x128 .bf16) := by
  refine holds_column _ w hw inb _ fun j d => ?_
  rw [show ldMat v4 f4 i4 = x3 from load_whole2 v4 f4 x3 h4 i4, show ldMat v5 f5 i5 = x4 from load_whole2 v5 f5 x4 h5 i5,
    show ldMat v10 f10 ia = Wa from load_whole2 v10 f10 Wa h10 ia,
    show ldSlab v8 f8 o1 i1 = _ from load_slab v8 f8 Z h8 (n + 1) w o1 ho1 i1, show ldSlab v8 f8 o2 i2 = _ from load_slab v8 f8 Z h8 (n + 2) w o2 ho2 i2]
  rfl

variable (v9 : View sig κ sp S3x4x224x128 .bf16) (f9 : v9.ty.Contents (Elt F)) (Z4 : Vec F S3x4x224x128 .bf16) (h9 : v9.read (Elt F) f9 = Z4)
  (v11 : View sig κ sp S3x256x256 .bf16) (f11 : v11.ty.Contents (Elt F)) (Wb : Vec F S3x256x256 .bf16) (h11 : v11.read (Elt F) f11 = Wb)
  (v12 : View sig κ sp S224x128 .i32) (f12 : v12.ty.Contents (Elt F)) (G : Vec F S224x128 .i32) (h12 : v12.read (Elt F) f12 = G)
  (q u : ℕ) (hq : w / 2 / 3 = q) (hu : w / 2 % 3 = u)
  (o3 o4 : Fin 4 → ℕ) (ho3 : o3 = ![(n + 1) % 3, q, 0, 0]) (ho4 : o4 = ![(n + 2) % 3, q, 0, 0]) (i3 i6 ib ig)

include hw h8 h10 h4 h5 ho1 ho2 h9 h11 h12 hq hu ho3 ho4 in
/-- One even column of the block of features at the successor states. -/
theorem holds_n_even (hp : w % 2 = 0) :
    Holds (nBlock n Z Z4 Wa Wb G (k0_pay8 x3) (k0_pay9 x4)) (fun y => (y 1).val = w)
      (⟨Rect.unit (s := S1x20x224x128) ![0, w, 0, 0] S1x1x224x128.size inb,
        k0_pay76 (k0_pay8 (ldMat v4 f4 i4)) (k0_pay9 (ldMat v5 f5 i5)) (k0_pay72 (ldSlab v9 f9 o3 i3) (ldSlab v9 f9 o4 i6) (ldWb v11 f11 u ib))
          (k0_pay73 (ldSlab v8 f8 o1 i1) (ldSlab v8 f8 o2 i2) (ldMat v10 f10 ia)) (ldMat v12 f12 ig)⟩ : View.Piece (Elt F) S1x20x224x128 .bf16) := by
  refine holds_column _ w hw inb _ fun j d => ?_
  rw [show ldMat v4 f4 i4 = x3 from load_whole2 v4 f4 x3 h4 i4, show ldMat v5 f5 i5 = x4 from load_whole2 v5 f5 x4 h5 i5,
    show ldMat v10 f10 ia = Wa from load_whole2 v10 f10 Wa h10 ia, show ldMat v12 f12 ig = G from load_whole2 v12 f12 G h12 ig,
    show ldSlab v8 f8 o1 i1 = _ from load_slab v8 f8 Z h8 (n + 1) w o1 ho1 i1, show ldSlab v8 f8 o2 i2 = _ from load_slab v8 f8 Z h8 (n + 2) w o2 ho2 i2,
    show ldSlab v9 f9 o3 i3 = _ from load_slab v9 f9 Z4 h9 (n + 1) q o3 ho3 i3, show ldSlab v9 f9 o4 i6 = _ from load_slab v9 f9 Z4 h9 (n + 2) q o4 ho4 i6,
    show ldWb v11 f11 u ib = _ from load_wb v11 f11 Wb h11 u ib]
  subst hq hu
  show _ = (if w % 2 = 0 then _ else _ : Vec F S1x1x224x128 .bf16) _
  rw [if_pos hp]
  rfl

include hw h8 h10 h4 h5 ho1 ho2 h9 h11 h12 hq hu ho3 ho4 in
/-- One odd column. -/
theorem holds_n_odd (hp : w % 2 = 1) :
    Holds (nBlock n Z Z4 Wa Wb G (k0_pay8 x3) (k0_pay9 x4)) (fun y => (y 1).val = w)
      (⟨Rect.unit (s := S1x20x224x128) ![0, w, 0, 0] S1x1x224x128.size inb,
        k0_pay81 (k0_pay8 (ldMat v4 f4 i4)) (k0_pay9 (ldMat v5 f5 i5)) (k0_pay72 (ldSlab v9 f9 o3 i3) (ldSlab v9 f9 o4 i6) (ldWb v11 f11 u ib))
          (k0_pay73 (ldSlab v8 f8 o1 i1) (ldSlab v8 f8 o2 i2) (ldMat v10 f10 ia)) (ldMat v12 f12 ig)⟩ : View.Piece (Elt F) S1x20x224x128 .bf16) := by
  refine holds_column _ w hw inb _ fun j d => ?_
  rw [show ldMat v4 f4 i4 = x3 from load_whole2 v4 f4 x3 h4 i4, show ldMat v5 f5 i5 = x4 from load_whole2 v5 f5 x4 h5 i5,
    show ldMat v10 f10 ia = Wa from load_whole2 v10 f10 Wa h10 ia, show ldMat v12 f12 ig = G from load_whole2 v12 f12 G h12 ig,
    show ldSlab v8 f8 o1 i1 = _ from load_slab v8 f8 Z h8 (n + 1) w o1 ho1 i1, show ldSlab v8 f8 o2 i2 = _ from load_slab v8 f8 Z h8 (n + 2) w o2 ho2 i2,
    show ldSlab v9 f9 o3 i3 = _ from load_slab v9 f9 Z4 h9 (n + 1) q o3 ho3 i3, show ldSlab v9 f9 o4 i6 = _ from load_slab v9 f9 Z4 h9 (n + 2) q o4 ho4 i6,
    show ldWb v11 f11 u ib = _ from load_wb v11 f11 Wb h11 u ib]
  subst hq hu
  show _ = (if w % 2 = 0 then _ else _ : Vec F S1x1x224x128 .bf16) _
  rw [if_neg (by omega)]
  rfl
end

end Cert.Kernel.Frame

end
-- ==== Proof.Frame.First.lean ====
/-
  The kernel's body at the first point, as a triple: from a band's words, the weights, the scale and the bias it leaves the
  scratch arrays with one slab built over zeros, the cast weights, the episode gate, and the two result blocks.

  The statements and proofs are those of `Conv.First`, here for the program printed before idealization, whose frame is claimed
  on bit patterns.
-/
module

public import proofs.«01_k».proof.Proof.Frame.Points
public import proofs.«01_k».proof.Proof.Frame.Columns

@[expose] public section

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

-- the run's proof term is large: checking it walks past the default budget
set_option maxHeartbeats 4000000 in
/-- The body at the first point: the weights are cast, the windows' slabs cleared and the episode gate set before the rest. -/
theorem body_first (c : Dev nD) (i : grid0.Coords)
    (arg1 : Memref sig .tc .vmem S896x128 .i32) (harg1 : arg1.IsWhole)
    (arg2 : Memref sig .tc .vmem S256x256 .fp8e4m3) (harg2 : arg2.IsWhole)
    (arg3 : Memref sig .tc .vmem S3x256x256 .fp8e4m3) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x20x224x128 .bf16) (harg6 : arg6.IsWhole)
    (arg7 : Memref sig .tc .vmem S1x20x224x128 .bf16) (harg7 : arg7.IsWhole)
    (arg8 : Memref sig .tc .vmem S3x20x224x128 .bf16) (harg8 : arg8.IsWhole)
    (arg9 : Memref sig .tc .vmem S3x4x224x128 .bf16) (harg9 : arg9.IsWhole)
    (arg10 : Memref sig .tc .vmem S256x256 .bf16) (harg10 : arg10.IsWhole)
    (arg11 : Memref sig .tc .vmem S3x256x256 .bf16) (harg11 : arg11.IsWhole)
    (arg12 : Memref sig .tc .vmem S224x128 .i32) (harg12 : arg12.IsWhole) (hc0 : isFirst i)
    (x0 : Vec F S896x128 .i32) (x1 : Vec F S256x256 .fp8e4m3) (x2 : Vec F S3x256x256 .fp8e4m3) (x3 x4 : Vec F S1x128 .f32)
    (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (sBlock (i 0).val (zNext (i 0).val x0 k0_pay4) (k0_pay2 x1) (k0_pay8 x3) (k0_pay9 x4))
            ∗ owns (c : Thread nD τ) arg7 fullShare (nBlock (i 0).val (zNext (i 0).val x0 k0_pay4) (z4Next (i 0).val x0 k0_pay5) (k0_pay2 x1) (k0_pay3 x2) (k0_pay7 (gateOf x0)) (k0_pay8 x3) (k0_pay9 x4))
            ∗ owns (c : Thread nD τ) arg8 fullShare (zNext (i 0).val x0 k0_pay4) ∗ owns (c : Thread nD τ) arg9 fullShare (z4Next (i 0).val x0 k0_pay5)
            ∗ owns (c : Thread nD τ) arg10 fullShare (k0_pay2 x1) ∗ owns (c : Thread nD τ) arg11 fullShare (k0_pay3 x2) ∗ owns (c : Thread nD τ) arg12 fullShare (k0_pay7 (gateOf x0))) -∗ K ()))
      ⊢ wp frame (wpE (defs₀ (F := F)) Variants.none c none) E
          (cc0_replay_conv i arg1 harg1 arg2 harg2 arg3 harg3 arg4 harg4 arg5 harg5 arg6 harg6 arg7 harg7 arg8 harg8 arg9 harg9 arg10 harg10 arg11 harg11 arg12 harg12) K := by
  simp only [cc0_replay_conv_eq_skeleton]; unfold cc0_replay_conv_skel
  simp only [k0_part35_eq_skeleton, k0_part2_eq_skeleton, k0_part3_eq_skeleton,
    k0_part4_eq_skeleton, k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton, k0_part21_eq_skeleton,
    k0_part22_eq_skeleton, k0_part23_eq_skeleton, k0_part24_eq_skeleton, k0_part25_eq_skeleton, k0_part26_eq_skeleton, k0_part27_eq_skeleton,
    k0_part28_eq_skeleton, k0_part29_eq_skeleton, k0_part30_eq_skeleton, k0_part31_eq_skeleton, k0_part32_eq_skeleton, k0_part33_eq_skeleton,
    k0_part34_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩,
    ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | sl_exact hc0)
  sl_step
  have hZ : arg8.view.read (Elt F) (arg8.view.writes (Elt F) fs0 (body_first.sl.HS0_41 c i arg1 harg1 x0)) = zNext (i 0).val x0 k0_pay4 := by
    refine read_writes_windows_over arg8.view fs0 (cols3 x0) (i 0).val _ k0_pay4 ![0, 0, 0, 0] (by decide) ?_
    rw [boxKeys_20]
    simp only [List.map_cons, List.map_nil, List.cons_append, List.nil_append]
    repeat' apply List.Forall₂.cons
    all_goals first
      | exact List.Forall₂.nil
      | exact holds_window (cols3 x0) (i 0).val _ _ _ _ ClosedOff.eq _ _ (load_cols3 harg1 x0 _ _ _ _ _ _ _ rfl rfl rfl) rfl (by decide) (by decide) _ _
      | exact rfl
  have hZ4 : arg9.view.read (Elt F) (arg9.view.writes (Elt F) fs1 (body_first.sl.HS1_9 c i arg1 harg1 x0)) = z4Next (i 0).val x0 k0_pay5 := by
    refine read_writes_windows_over arg9.view fs1 (cols1 x0) (i 0).val _ k0_pay5 ![0, 0, 0, 0] (by decide) ?_
    rw [boxKeys_4]
    simp only [List.map_cons, List.map_nil, List.cons_append, List.nil_append]
    repeat' apply List.Forall₂.cons
    all_goals first
      | exact List.Forall₂.nil
      | exact holds_window (cols1 x0) (i 0).val _ _ _ _ ClosedOff.eq _ _ (load_cols1 harg1 x0 _ _ _ rfl) rfl (by decide) (by decide) _ _
      | exact rfl
  have hWa : ∀ f, arg10.view.read (Elt F) (arg10.view.writes (Elt F) f (body_first.sl.HS2_1 c arg2 harg2 x1)) = k0_pay2 x1 := fun f =>
    (View.read_writes_full arg10.view f _ _ _).trans (congrArg k0_pay2 (load_whole2 arg2.view _ x1 hf1 _))
  have hWb : ∀ f, arg11.view.read (Elt F) (arg11.view.writes (Elt F) f (body_first.sl.HS3_1 c arg3 harg3 x2)) = k0_pay3 x2 := fun f =>
    (View.read_writes_full arg11.view f _ _ _).trans (congrArg k0_pay3 (load_whole3 arg3.view _ x2 hf2 _))
  have hG : ∀ f, arg12.view.read (Elt F) (arg12.view.writes (Elt F) f (body_first.sl.HS4_1 c arg1 harg1 x0)) = k0_pay7 (gateOf x0) := fun f =>
    (View.read_writes_full arg12.view f _ _ _).trans (congrArg k0_pay7 (load_gate harg1 x0 _ _ rfl))
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine read_writes_columns arg6.view _ _ _ ?_
    rw [reverse_range_20]
    repeat' apply List.Forall₂.cons
    all_goals first
      | exact List.Forall₂.nil
      | exact holds_s _ _ (by decide) _ _ _ hZ _ _ _ (hWa _) _ _ _ (harg4.read_unread _) _ _ _ (harg5.read_unread _) _ _ ClosedOff.eq ClosedOff.eq _ _ _ _ _ _
  isplitl [H6]
  · iexists _; isplitr; swap; · iexact H6
    ipureintro
    refine read_writes_columns arg7.view _ _ _ ?_
    rw [reverse_range_20]
    repeat' apply List.Forall₂.cons
    iterate 10
      exact holds_n_odd _ _ (by decide) _ _ _ hZ _ _ _ (hWa _) _ _ _ (harg4.read_unread _) _ _ _ (harg5.read_unread _) _ _ ClosedOff.eq ClosedOff.eq
          _ _ _ _ _ _ _ _ _ hZ4 _ _ _ (hWb _) _ _ _ (hG _) _ _ (by decide) (by decide) _ _ ClosedOff.eq ClosedOff.eq _ _ _ _ (by decide)
      exact holds_n_even _ _ (by decide) _ _ _ hZ _ _ _ (hWa _) _ _ _ (harg4.read_unread _) _ _ _ (harg5.read_unread _) _ _ ClosedOff.eq ClosedOff.eq
          _ _ _ _ _ _ _ _ _ hZ4 _ _ _ (hWb _) _ _ _ (hG _) _ _ (by decide) (by decide) _ _ ClosedOff.eq ClosedOff.eq _ _ _ _ (by decide)
    exact List.Forall₂.nil
  isplitl [HS0]
  · iexists _; isplitr; swap; · iexact HS0
    ipureintro
    exact hZ
  isplitl [HS1]
  · iexists _; isplitr; swap; · iexact HS1
    ipureintro
    exact hZ4
  isplitl [HS2]
  · iexists _; isplitr; swap; · iexact HS2
    ipureintro; exact hWa _
  isplitl [HS3]
  · iexists _; isplitr; swap; · iexact HS3
    ipureintro; exact hWb _
  iexists _; isplitr; swap; · iexact HS4
  ipureintro; exact hG _

end Cert.Kernel.Frame

end
-- ==== Proof.Frame.Later.lean ====
/-
  The kernel's body at a point after the first, as a triple: from a band's words and scratch arrays with known contents it
  leaves the scratch arrays with one slab built anew and the two result blocks.

  The statements and proofs are those of `Conv.Later`, here for the program printed before idealization, whose frame is claimed
  on bit patterns.
-/
module

public import proofs.«01_k».proof.Proof.Frame.Points
public import proofs.«01_k».proof.Proof.Frame.Columns

@[expose] public section

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

-- the run's proof term is large: checking it walks past the default budget
set_option maxHeartbeats 4000000 in
/-- The body where the first-point branch is not taken. -/
theorem body_later (c : Dev nD) (i : grid0.Coords)
    (arg1 : Memref sig .tc .vmem S896x128 .i32) (harg1 : arg1.IsWhole)
    (arg2 : Memref sig .tc .vmem S256x256 .fp8e4m3) (harg2 : arg2.IsWhole)
    (arg3 : Memref sig .tc .vmem S3x256x256 .fp8e4m3) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x20x224x128 .bf16) (harg6 : arg6.IsWhole)
    (arg7 : Memref sig .tc .vmem S1x20x224x128 .bf16) (harg7 : arg7.IsWhole)
    (arg8 : Memref sig .tc .vmem S3x20x224x128 .bf16) (harg8 : arg8.IsWhole)
    (arg9 : Memref sig .tc .vmem S3x4x224x128 .bf16) (harg9 : arg9.IsWhole)
    (arg10 : Memref sig .tc .vmem S256x256 .bf16) (harg10 : arg10.IsWhole)
    (arg11 : Memref sig .tc .vmem S3x256x256 .bf16) (harg11 : arg11.IsWhole)
    (arg12 : Memref sig .tc .vmem S224x128 .i32) (harg12 : arg12.IsWhole) (hc0 : ¬isFirst i)
    (x0 : Vec F S896x128 .i32) (x1 : Vec F S256x256 .fp8e4m3) (x2 : Vec F S3x256x256 .fp8e4m3) (x3 x4 : Vec F S1x128 .f32)
    (Z : Vec F S3x20x224x128 .bf16) (Z4 : Vec F S3x4x224x128 .bf16) (Wa : Vec F S256x256 .bf16) (Wb : Vec F S3x256x256 .bf16)
    (G : Vec F S224x128 .i32) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare Z ∗ owns (c : Thread nD τ) arg9 fullShare Z4 ∗ owns (c : Thread nD τ) arg10 fullShare Wa
        ∗ owns (c : Thread nD τ) arg11 fullShare Wb ∗ owns (c : Thread nD τ) arg12 fullShare G
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (sBlock (i 0).val (zNext (i 0).val x0 Z) Wa (k0_pay8 x3) (k0_pay9 x4))
            ∗ owns (c : Thread nD τ) arg7 fullShare (nBlock (i 0).val (zNext (i 0).val x0 Z) (z4Next (i 0).val x0 Z4) Wa Wb G (k0_pay8 x3) (k0_pay9 x4))
            ∗ owns (c : Thread nD τ) arg8 fullShare (zNext (i 0).val x0 Z) ∗ owns (c : Thread nD τ) arg9 fullShare (z4Next (i 0).val x0 Z4)
            ∗ owns (c : Thread nD τ) arg10 fullShare Wa ∗ owns (c : Thread nD τ) arg11 fullShare Wb ∗ owns (c : Thread nD τ) arg12 fullShare G) -∗ K ()))
      ⊢ wp frame (wpE (defs₀ (F := F)) Variants.none c none) E
          (cc0_replay_conv i arg1 harg1 arg2 harg2 arg3 harg3 arg4 harg4 arg5 harg5 arg6 harg6 arg7 harg7 arg8 harg8 arg9 harg9 arg10 harg10 arg11 harg11 arg12 harg12) K := by
  simp only [cc0_replay_conv_eq_skeleton]; unfold cc0_replay_conv_skel
  simp only [k0_part35_eq_skeleton, k0_part2_eq_skeleton, k0_part3_eq_skeleton,
    k0_part4_eq_skeleton, k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton, k0_part21_eq_skeleton,
    k0_part22_eq_skeleton, k0_part23_eq_skeleton, k0_part24_eq_skeleton, k0_part25_eq_skeleton, k0_part26_eq_skeleton, k0_part27_eq_skeleton,
    k0_part28_eq_skeleton, k0_part29_eq_skeleton, k0_part30_eq_skeleton, k0_part31_eq_skeleton, k0_part32_eq_skeleton, k0_part33_eq_skeleton,
    k0_part34_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩,
    ⟨%fs0, %hs0, HS0⟩, ⟨%fs1, %hs1, HS1⟩, ⟨%fs2, %hs2, HS2⟩, ⟨%fs3, %hs3, HS3⟩, ⟨%fs4, %hs4, HS4⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | sl_exact hc0)
  sl_step
  have hZ : arg8.view.read (Elt F) (arg8.view.writes (Elt F) fs0 (body_later.sl.HS0_40 c i arg1 harg1 x0)) = zNext (i 0).val x0 Z := by
    refine (read_writes_windows arg8.view fs0 (cols3 x0) (i 0).val _ ?_).trans (by rw [hs0]; rfl)
    rw [boxKeys_20]
    repeat' apply List.Forall₂.cons
    all_goals first
      | exact List.Forall₂.nil
      | exact holds_window (cols3 x0) (i 0).val _ _ _ _ ClosedOff.eq _ _ (load_cols3 harg1 x0 _ _ _ _ _ _ _ rfl rfl rfl) rfl (by decide) (by decide) _ _
  have hZ4 : arg9.view.read (Elt F) (arg9.view.writes (Elt F) fs1 (body_later.sl.HS1_8 c i arg1 harg1 x0)) = z4Next (i 0).val x0 Z4 := by
    refine (read_writes_windows arg9.view fs1 (cols1 x0) (i 0).val _ ?_).trans (by rw [hs1]; rfl)
    rw [boxKeys_4]
    repeat' apply List.Forall₂.cons
    all_goals first
      | exact List.Forall₂.nil
      | exact holds_window (cols1 x0) (i 0).val _ _ _ _ ClosedOff.eq _ _ (load_cols1 harg1 x0 _ _ _ rfl) rfl (by decide) (by decide) _ _
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine read_writes_columns arg6.view _ _ _ ?_
    rw [reverse_range_20]
    repeat' apply List.Forall₂.cons
    all_goals first
      | exact List.Forall₂.nil
      | exact holds_s _ _ (by decide) _ _ _ hZ _ _ _ hs2 _ _ _ (harg4.read_unread _) _ _ _ (harg5.read_unread _) _ _ ClosedOff.eq ClosedOff.eq _ _ _ _ _ _
  isplitl [H6]
  · iexists _; isplitr; swap; · iexact H6
    ipureintro
    refine read_writes_columns arg7.view _ _ _ ?_
    rw [reverse_range_20]
    repeat' apply List.Forall₂.cons
    iterate 10
      exact holds_n_odd _ _ (by decide) _ _ _ hZ _ _ _ hs2 _ _ _ (harg4.read_unread _) _ _ _ (harg5.read_unread _) _ _ ClosedOff.eq ClosedOff.eq
          _ _ _ _ _ _ _ _ _ hZ4 _ _ _ hs3 _ _ _ hs4 _ _ (by decide) (by decide) _ _ ClosedOff.eq ClosedOff.eq _ _ _ _ (by decide)
      exact holds_n_even _ _ (by decide) _ _ _ hZ _ _ _ hs2 _ _ _ (harg4.read_unread _) _ _ _ (harg5.read_unread _) _ _ ClosedOff.eq ClosedOff.eq
          _ _ _ _ _ _ _ _ _ hZ4 _ _ _ hs3 _ _ _ hs4 _ _ (by decide) (by decide) _ _ ClosedOff.eq ClosedOff.eq _ _ _ _ (by decide)
    exact List.Forall₂.nil
  isplitl [HS0]
  · iexists _; isplitr; swap; · iexact HS0
    ipureintro
    exact hZ
  isplitl [HS1]
  · iexists _; isplitr; swap; · iexact HS1
    ipureintro
    exact hZ4
  isplitl [HS2]
  · iexists _; isplitr; swap; · iexact HS2
    ipureintro; exact hs2
  isplitl [HS3]
  · iexists _; isplitr; swap; · iexact HS3
    ipureintro; exact hs3
  iexists _; isplitr; swap; · iexact HS4
  ipureintro; exact hs4

end Cert.Kernel.Frame

end
-- ==== Proof.Frame.Run.lean ====
/-
  The kernel's run: what the scratch arrays hold after each point, the pipeline's proof data stating it and the result blocks,
  the body at every point, and the run of the whole program with its frame.

  The statements and proofs are those of `Conv.Run`, here for the program printed before idealization, whose frame is claimed
  on bit patterns.
-/
module

public import proofs.«01_k».proof.Proof.Frame.First
public import proofs.«01_k».proof.Proof.Frame.Later
public import Idealize.ShloMosaic.Lib.Claim

@[expose] public section

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

variable (m : (ℓ : Loc nD τ sig) → Buf (Elt F) ℓ) (ρ : Dev nD → PrngReg)

/-! ## What the scratch arrays hold -/

/-- The grid's point of a number. -/
def pt (n : ℕ) : Fin cfg0.N := ⟨n % 22, lt_of_lt_of_eq (Nat.mod_lt _ (by decide)) N_0.symm⟩

theorem pt_val (t : Fin cfg0.N) : pt t.val = t :=
  Fin.ext (Nat.mod_eq_of_lt (lt_of_lt_of_eq t.isLt N_0))

/-- The words the body is handed at a point. -/
def words (c : Dev nD) (n : ℕ) : Vec F S896x128 .i32 := iblk m c 0 (pt n)

/-- The windows of the first three word tiles after a point. -/
def zAt (c : Dev nD) : ℕ → Vec F S3x20x224x128 .bf16
  | 0 => zNext 0 (words m c 0) k0_pay4
  | n + 1 => zNext (n + 1) (words m c (n + 1)) (zAt c n)

/-- The windows of the last word tile after a point. -/
def z4At (c : Dev nD) : ℕ → Vec F S3x4x224x128 .bf16
  | 0 => z4Next 0 (words m c 0) k0_pay5
  | n + 1 => z4Next (n + 1) (words m c (n + 1)) (z4At c n)

/-- The cast weights and the episode gate, kept from the first point on. -/
def waOf (c : Dev nD) : Vec F S256x256 .bf16 := k0_pay2 (iblk m c 1 (pt 0))
def wbOf (c : Dev nD) : Vec F S3x256x256 .bf16 := k0_pay3 (iblk m c 2 (pt 0))
def gOf (c : Dev nD) : Vec F S224x128 .i32 := k0_pay7 (gateOf (words m c 0))

/-- The two result blocks at a point. -/
def sAt (c : Dev nD) (t : Fin cfg0.N) : Vec F S1x20x224x128 .bf16 :=
  sBlock t.val (zAt m c t.val) (waOf m c) (k0_pay8 (iblk m c 3 t)) (k0_pay9 (iblk m c 4 t))
def nAt (c : Dev nD) (t : Fin cfg0.N) : Vec F S1x20x224x128 .bf16 :=
  nBlock t.val (zAt m c t.val) (z4At m c t.val) (waOf m c) (wbOf m c) (gOf m c) (k0_pay8 (iblk m c 3 t)) (k0_pay9 (iblk m c 4 t))

/-- The invariant before a point: nothing known of the scratch before the first, afterwards all of it. -/
def PhiS (c : Dev nD) : ℕ → sProp (MT nD τ sig Unit (Elt F) ℕ (UR sig nD τ) ℕ)
  | 0 => Pipeline.ΦA spec0 c
  | n + 1 => iprop(iprop(owns (c : Thread nD τ) scM0_0 fullShare (zAt m c n) ∗ owns (c : Thread nD τ) scM0_1 fullShare (z4At m c n)
          ∗ owns (c : Thread nD τ) scM0_2 fullShare (waOf m c) ∗ owns (c : Thread nD τ) scM0_3 fullShare (wbOf m c)
          ∗ owns (c : Thread nD τ) scM0_4 fullShare (gOf m c)) ∗ (∃ r, prngReg c r))

/-! ## The pipeline's proof data -/

/-- The proof data: each input's buffer holds its block, the outputs the result blocks, the invariant that of the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => sAt m c t
    | ⟨6, _⟩ => nAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = sAt m c t := by dsimp only [dats]
theorem after0_6 (c : Dev nD) (t : Fin cfg0.N) : (dats m 0 c).after 6 t = nAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

theorem zAt_zero (c : Dev nD) (t : Fin cfg0.N) (h : t.val = 0) : zAt m c t.val = zNext t.val (iblk m c 0 t) k0_pay4 := by
  have e := pt_val t
  rw [h] at e
  rw [h, ← e]; rfl

theorem z4At_zero (c : Dev nD) (t : Fin cfg0.N) (h : t.val = 0) : z4At m c t.val = z4Next t.val (iblk m c 0 t) k0_pay5 := by
  have e := pt_val t
  rw [h] at e
  rw [h, ← e]; rfl

theorem zAt_later (c : Dev nD) (t : Fin cfg0.N) (n : ℕ) (h : t.val = n + 1) : zAt m c t.val = zNext t.val (iblk m c 0 t) (zAt m c n) := by
  have e := pt_val t
  rw [h] at e
  rw [h, ← e]; rfl

theorem z4At_later (c : Dev nD) (t : Fin cfg0.N) (n : ℕ) (h : t.val = n + 1) : z4At m c t.val = z4Next t.val (iblk m c 0 t) (z4At m c n) := by
  have e := pt_val t
  rw [h] at e
  rw [h, ← e]; rfl

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6,
    show (dats m 0 c).Φ t.succ = PhiS m c (t.val + 1) from rfl, show (dats m 0 c).Φ t.castSucc = PhiS m c t.val from rfl]
  rw [show PhiS m c (t.val + 1) = iprop(iprop(owns (c : Thread nD τ) scM0_0 fullShare (zAt m c t.val) ∗ owns (c : Thread nD τ) scM0_1 fullShare (z4At m c t.val)
          ∗ owns (c : Thread nD τ) scM0_2 fullShare (waOf m c) ∗ owns (c : Thread nD τ) scM0_3 fullShare (wbOf m c)
          ∗ owns (c : Thread nD τ) scM0_4 fullShare (gOf m c)) ∗ (∃ r, prngReg c r)) from rfl]
  unfold sAt nAt
  by_cases h0 : t.val = 0
  · have e := pt_val t
    rw [h0] at e
    rw [zAt_zero m c t h0, z4At_zero m c t h0, show waOf m c = k0_pay2 (iblk m c 1 t) by rw [← e]; rfl,
      show wbOf m c = k0_pay3 (iblk m c 2 t) by rw [← e]; rfl, show gOf m c = k0_pay7 (gateOf (iblk m c 0 t)) by rw [← e]; rfl,
      show PhiS m c t.val = Pipeline.ΦA spec0 c by rw [h0]; rfl, PhiA0_eq]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
    have hb := fun K => body_first (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6))
      scM0_0 (Memref.isWhole_whole _) scM0_1 (Memref.isWhole_whole _) scM0_2 (Memref.isWhole_whole _) scM0_3 (Memref.isWhole_whole _) scM0_4 (Memref.isWhole_whole _)
      ((isFirst_iff t).mpr h0) (iblk m c 0 t) (iblk m c 1 t) (iblk m c 2 t) (iblk m c 3 t) (iblk m c 4 t) Set.univ K
    simp only [coords_val] at hb
    iapply (hb _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, HS0, HS1, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ : ∃ n, t.val = n + 1 := ⟨t.val - 1, by omega⟩
    rw [zAt_later m c t n hn, z4At_later m c t n hn, show PhiS m c t.val = PhiS m c (n + 1) by rw [hn]]
    rw [show PhiS m c (n + 1) = iprop(iprop(owns (c : Thread nD τ) scM0_0 fullShare (zAt m c n) ∗ owns (c : Thread nD τ) scM0_1 fullShare (z4At m c n)
          ∗ owns (c : Thread nD τ) scM0_2 fullShare (waOf m c) ∗ owns (c : Thread nD τ) scM0_3 fullShare (wbOf m c)
          ∗ owns (c : Thread nD τ) scM0_4 fullShare (gOf m c)) ∗ (∃ r, prngReg c r)) from rfl]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
    have hb := fun K => body_later (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6))
      scM0_0 (Memref.isWhole_whole _) scM0_1 (Memref.isWhole_whole _) scM0_2 (Memref.isWhole_whole _) scM0_3 (Memref.isWhole_whole _) scM0_4 (Memref.isWhole_whole _)
      (fun h => h0 ((isFirst_iff t).mp h)) (iblk m c 0 t) (iblk m c 1 t) (iblk m c 2 t) (iblk m c 3 t) (iblk m c 4 t)
      (zAt m c n) (z4At m c n) (waOf m c) (wbOf m c) (gOf m c) Set.univ K
    simp only [coords_val] at hb
    iapply (hb _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, HS0, HS1, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem phi_out (c : Dev nD) : (dats m 0 c).Φ (Fin.last cfg0.N) ⊢ Pipeline.ΦA spec0 c := by
  rw [show (dats m 0 c).Φ (Fin.last cfg0.N) = PhiS m c cfg0.N from rfl, show PhiS m c cfg0.N = PhiS m c (21 + 1) from congrArg (PhiS m c) N_0, PhiA0_eq]
  rw [show PhiS m c (21 + 1) = iprop(iprop(owns (c : Thread nD τ) scM0_0 fullShare (zAt m c 21) ∗ owns (c : Thread nD τ) scM0_1 fullShare (z4At m c 21)
          ∗ owns (c : Thread nD τ) scM0_2 fullShare (waOf m c) ∗ owns (c : Thread nD τ) scM0_3 fullShare (wbOf m c)
          ∗ owns (c : Thread nD τ) scM0_4 fullShare (gOf m c)) ∗ (∃ r, prngReg c r)) from rfl]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

set_option backward.isDefEq.respectTransparency.types false in
/-- Every run ends with the arrays as the proof data says and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => .rfl) (hout := phi_out m)
    (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel.Frame

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Conv.Equal
public import proofs.«01_k».proof.Proof.Frame.Run
public import Idealize.ShloMosaic.Adequacy
public import Idealize.ShloMosaic.Init

@[expose] public section

noncomputable section

namespace Cert.Proof

open Idealize.ShloMosaic Idealize.SL.Sem Cert.Kernel

/-- From memories that agree on the arguments both programs end with the same features: those of `Conv.features`. -/
theorem equal : Cert.algebraic_KernelIdeal_ReferenceIdeal (hKernelIdeal := Cert.KernelIdeal.Gen.facts) (hReferenceIdeal := Cert.ReferenceIdeal.Gen.facts) := by
  intro m g m' g' _ hargs
  refine ⟨_, _, Cert.Conv.kernel_run m g, (θ_run _ _ _).mono (fun _ h c => ?_) (Cert.Conv.reference_run m' g')⟩
  obtain ⟨h0, h1, hrest⟩ := h c
  obtain ⟨a0, a1, a2, a3⟩ := hargs c
  refine ⟨h0.trans ?_, h1.trans ?_, hrest⟩
  · unfold Cert.ReferenceIdeal.Conv.codes
    erw [a0, a1, a2, a3]
  · unfold Cert.ReferenceIdeal.Conv.codes
    erw [a0, a1, a2, a3]

theorem claim : Cert.Claim := ⟨Cert.Kernel.Gen.facts, Cert.KernelIdeal.Gen.facts, Cert.ReferenceIdeal.Gen.facts, by
  exact ⟨fun m ρ _ => Cert.Kernel.Frame.frame m ρ, fun m ρ _ => Cert.KernelIdeal.Conv.frame m ρ,
    fun m ρ _ => Cert.ReferenceIdeal.Gen.frame m ρ, trivial, equal⟩⟩

end Cert.Proof

end
